-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8192x512 : Shape := ⟨2, ![8192, 512]⟩
abbrev S3x2 : Shape := ⟨2, ![3, 2]⟩
abbrev S3 : Shape := ⟨1, ![3]⟩
abbrev S_ : Shape := ⟨0, ![]⟩
abbrev S384x512 : Shape := ⟨2, ![384, 512]⟩
abbrev S320x512 : Shape := ⟨2, ![320, 512]⟩
abbrev S1x1 : Shape := ⟨2, ![1, 1]⟩
abbrev S1 : Shape := ⟨1, ![1]⟩
abbrev S192x512 : Shape := ⟨2, ![192, 512]⟩
abbrev S160x512 : Shape := ⟨2, ![160, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S8192x512, .bf16⟩
  | .local _ .vmem, ⟨0, _⟩ => ⟨S2048x512, .bf16⟩
  | .local _ .vmem, ⟨1, _⟩ => ⟨S8192x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v89 : BitVec 32 := Scalar.muli v2 c16_i32_61
  let v90 : BitVec 32 := Scalar.addi c0_i32_62 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v53 : BitVec 32 := Scalar.addi v5 c1_i32_36
  let c0_i32_37 : BitVec 32 := 0#32
  let v54 : BitVec 32 := Scalar.addi v53 c0_i32_37
  let c4_i32_38 : BitVec 32 := 4#32
  let c0_i32_39 : BitVec 32 := 0#32
  let v55 : BitVec 1 := Scalar.cmpi .eq c4_i32_38 c0_i32_39
  let c1_i32_40 : BitVec 32 := 1#32
  let v56 : BitVec 32 := Scalar.select v55 c1_i32_40 c4_i32_38
  let v57 : BitVec 32 := Scalar.remsi v54 v56
  let c0_i32_42 : BitVec 32 := 0#32
  let v59 : BitVec 1 := Scalar.cmpi .slt v57 c0_i32_42
  let c0_i32_43 : BitVec 32 := 0#32
  let v60 : BitVec 1 := Scalar.cmpi .slt v56 c0_i32_43
  let v61 : BitVec 1 := Scalar.xori v59 v60
  let c0_i32_41 : BitVec 32 := 0#32
  let v58 : BitVec 1 := Scalar.cmpi .ne v57 c0_i32_41
  let v62 : BitVec 1 := Scalar.andi v61 v58
  let v63 : BitVec 32 := Scalar.addi v57 v56
  let v64 : BitVec 32 := Scalar.select v62 v63 v57
  let c4_i32_63 : BitVec 32 := 4#32
  let v91 : BitVec 32 := Scalar.muli v64 c4_i32_63
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v93 : BitVec 32 := Scalar.muli v8 c1_i32_64
  let v94 : BitVec 32 := Scalar.addi v92 v93
  v94.toNat
def k0_dev2 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v95 : BitVec 32 := Scalar.muli v2 c16_i32_66
  let v96 : BitVec 32 := Scalar.addi c0_i32_67 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_44 : BitVec 32 := 1#32
  let v65 : BitVec 32 := Scalar.addi v5 c1_i32_44
  let c1_i32_45 : BitVec 32 := 1#32
  let v66 : BitVec 32 := Scalar.addi v65 c1_i32_45
  let c4_i32_46 : BitVec 32 := 4#32
  let c0_i32_47 : BitVec 32 := 0#32
  let v67 : BitVec 1 := Scalar.cmpi .eq c4_i32_46 c0_i32_47
  let c1_i32_48 : BitVec 32 := 1#32
  let v68 : BitVec 32 := Scalar.select v67 c1_i32_48 c4_i32_46
  let v69 : BitVec 32 := Scalar.remsi v66 v68
  let c0_i32_50 : BitVec 32 := 0#32
  let v71 : BitVec 1 := Scalar.cmpi .slt v69 c0_i32_50
  let c0_i32_51 : BitVec 32 := 0#32
  let v72 : BitVec 1 := Scalar.cmpi .slt v68 c0_i32_51
  let v73 : BitVec 1 := Scalar.xori v71 v72
  let c0_i32_49 : BitVec 32 := 0#32
  let v70 : BitVec 1 := Scalar.cmpi .ne v69 c0_i32_49
  let v74 : BitVec 1 := Scalar.andi v73 v70
  let v75 : BitVec 32 := Scalar.addi v69 v68
  let v76 : BitVec 32 := Scalar.select v74 v75 v69
  let c4_i32_68 : BitVec 32 := 4#32
  let v97 : BitVec 32 := Scalar.muli v76 c4_i32_68
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v99 : BitVec 32 := Scalar.muli v8 c1_i32_69
  let v100 : BitVec 32 := Scalar.addi v98 v99
  v100.toNat
def k0_dev3 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v101 : BitVec 32 := Scalar.muli v2 c16_i32_71
  let v102 : BitVec 32 := Scalar.addi c0_i32_72 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_52 : BitVec 32 := 1#32
  let v77 : BitVec 32 := Scalar.addi v5 c1_i32_52
  let c2_i32_53 : BitVec 32 := 2#32
  let v78 : BitVec 32 := Scalar.addi v77 c2_i32_53
  let c4_i32_54 : BitVec 32 := 4#32
  let c0_i32_55 : BitVec 32 := 0#32
  let v79 : BitVec 1 := Scalar.cmpi .eq c4_i32_54 c0_i32_55
  let c1_i32_56 : BitVec 32 := 1#32
  let v80 : BitVec 32 := Scalar.select v79 c1_i32_56 c4_i32_54
  let v81 : BitVec 32 := Scalar.remsi v78 v80
  let c0_i32_58 : BitVec 32 := 0#32
  let v83 : BitVec 1 := Scalar.cmpi .slt v81 c0_i32_58
  let c0_i32_59 : BitVec 32 := 0#32
  let v84 : BitVec 1 := Scalar.cmpi .slt v80 c0_i32_59
  let v85 : BitVec 1 := Scalar.xori v83 v84
  let c0_i32_57 : BitVec 32 := 0#32
  let v82 : BitVec 1 := Scalar.cmpi .ne v81 c0_i32_57
  let v86 : BitVec 1 := Scalar.andi v85 v82
  let v87 : BitVec 32 := Scalar.addi v81 v80
  let v88 : BitVec 32 := Scalar.select v86 v87 v81
  let c4_i32_73 : BitVec 32 := 4#32
  let v103 : BitVec 32 := Scalar.muli v88 c4_i32_73
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v105 : BitVec 32 := Scalar.muli v8 c1_i32_74
  let v106 : BitVec 32 := Scalar.addi v104 v105
  v106.toNat
def k0_dev4 (d0 : Dev nD) : Nat :=
  let c0_i32_77 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_76 : BitVec 32 := 16#32
  let v107 : BitVec 32 := Scalar.muli v30 c16_i32_76
  let v108 : BitVec 32 := Scalar.addi c0_i32_77 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v109 : BitVec 32 := Scalar.muli v5 c4_i32_78
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v111 : BitVec 32 := Scalar.muli v8 c1_i32_79
  let v112 : BitVec 32 := Scalar.addi v110 v111
  v112.toNat
def k0_dev5 (d0 : Dev nD) : Nat :=
  let c0_i32_82 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_81 : BitVec 32 := 16#32
  let v113 : BitVec 32 := Scalar.muli v2 c16_i32_81
  let v114 : BitVec 32 := Scalar.addi c0_i32_82 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v115 : BitVec 32 := Scalar.muli v5 c4_i32_83
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_84 : BitVec 32 := 1#32
  let v117 : BitVec 32 := Scalar.muli v33 c1_i32_84
  let v118 : BitVec 32 := Scalar.addi v116 v117
  v118.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c384_i32 : BitVec 32 := 384#32
  let v119 : BitVec 32 := Scalar.muli v29 c384_i32
  let v120 : Index := Scalar.indexCast v119
  let c0 : Index := 0#32
  ![v120.toNat, 0]
def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32 : BitVec 32 := 2048#32
  let v123 : BitVec 32 := Scalar.muli v5 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c384_i32_85 : BitVec 32 := 384#32
  let v124 : BitVec 32 := Scalar.muli v29 c384_i32_85
  let v125 : BitVec 32 := Scalar.addi v123 v124
  let v126 : Index := Scalar.indexCast v125
  let c0_86 : Index := 0#32
  ![v126.toNat, 0]
def k0_off3 (d0 : Dev nD) : Fin 2 → Nat :=
  let c768_i32 : BitVec 32 := 768#32
  let c320_i32 : BitVec 32 := 320#32
  let c2_i32_87 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v128 : BitVec 32 := Scalar.muli c2_i32_87 v18
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.addi v128 v2
  let v130 : BitVec 32 := Scalar.muli c320_i32 v129
  let v131 : BitVec 32 := Scalar.addi c768_i32 v130
  let v132 : Index := Scalar.indexCast v131
  let c0_88 : Index := 0#32
  ![v132.toNat, 0]
def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_89 : BitVec 32 := 2048#32
  let v135 : BitVec 32 := Scalar.muli v5 c2048_i32_89
  let c768_i32 : BitVec 32 := 768#32
  let c320_i32 : BitVec 32 := 320#32
  let c2_i32_87 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v128 : BitVec 32 := Scalar.muli c2_i32_87 v18
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v129 : BitVec 32 := Scalar.addi v128 v2
  let v130 : BitVec 32 := Scalar.muli c320_i32 v129
  let v131 : BitVec 32 := Scalar.addi c768_i32 v130
  let v136 : BitVec 32 := Scalar.addi v135 v131
  let v137 : Index := Scalar.indexCast v136
  let c0_90 : Index := 0#32
  ![v137.toNat, 0]
def k0_off5 (d0 : Dev nD) (c0_i32_92 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_91 : BitVec 32 := 1#32
  let v139 : BitVec 32 := Scalar.addi v5 c1_i32_91
  let v140 : BitVec 32 := Scalar.addi v139 c0_i32_92
  let c4_i32_93 : BitVec 32 := 4#32
  let c0_i32_94 : BitVec 32 := 0#32
  let v141 : BitVec 1 := Scalar.cmpi .eq c4_i32_93 c0_i32_94
  let c1_i32_95 : BitVec 32 := 1#32
  let v142 : BitVec 32 := Scalar.select v141 c1_i32_95 c4_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let v151 : BitVec 1 := Scalar.cmpi .slt v5 v150
  let c1_i32_99 : BitVec 32 := 1#32
  let v152 : BitVec 32 := Scalar.subi v5 c1_i32_99
  let v153 : BitVec 32 := Scalar.select v151 v5 v152
  let c0_i32_104 : BitVec 32 := 0#32
  ![v153.toNat, 0]
def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_103 : BitVec 32 := 2048#32
  let v158 : BitVec 32 := Scalar.muli v5 c2048_i32_103
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c384_i32_102 : BitVec 32 := 384#32
  let v157 : BitVec 32 := Scalar.muli v29 c384_i32_102
  let v159 : BitVec 32 := Scalar.addi v158 v157
  let c0_i32_111 : BitVec 32 := 0#32
  ![v159.toNat, 0]
def k0_dev6 (d0 : Dev nD) : Nat :=
  let c0_i32_108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_107 : BitVec 32 := 16#32
  let v160 : BitVec 32 := Scalar.muli v2 c16_i32_107
  let v161 : BitVec 32 := Scalar.addi c0_i32_108 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_91 : BitVec 32 := 1#32
  let v139 : BitVec 32 := Scalar.addi v5 c1_i32_91
  let c0_i32_92 : BitVec 32 := 0#32
  let v140 : BitVec 32 := Scalar.addi v139 c0_i32_92
  let c4_i32_93 : BitVec 32 := 4#32
  let c0_i32_94 : BitVec 32 := 0#32
  let v141 : BitVec 1 := Scalar.cmpi .eq c4_i32_93 c0_i32_94
  let c1_i32_95 : BitVec 32 := 1#32
  let v142 : BitVec 32 := Scalar.select v141 c1_i32_95 c4_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let c4_i32_109 : BitVec 32 := 4#32
  let v162 : BitVec 32 := Scalar.muli v150 c4_i32_109
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v164 : BitVec 32 := Scalar.muli v8 c1_i32_110
  let v165 : BitVec 32 := Scalar.addi v163 v164
  v165.toNat
def k0_off7 (d0 : Dev nD) (c0_i32_92 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_91 : BitVec 32 := 1#32
  let v139 : BitVec 32 := Scalar.addi v5 c1_i32_91
  let v140 : BitVec 32 := Scalar.addi v139 c0_i32_92
  let c4_i32_93 : BitVec 32 := 4#32
  let c0_i32_94 : BitVec 32 := 0#32
  let v141 : BitVec 1 := Scalar.cmpi .eq c4_i32_93 c0_i32_94
  let c1_i32_95 : BitVec 32 := 1#32
  let v142 : BitVec 32 := Scalar.select v141 c1_i32_95 c4_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let v151 : BitVec 1 := Scalar.cmpi .slt v5 v150
  let c1_i32_99 : BitVec 32 := 1#32
  let v152 : BitVec 32 := Scalar.subi v5 c1_i32_99
  let v153 : BitVec 32 := Scalar.select v151 v5 v152
  let c1_i32_121 : BitVec 32 := 1#32
  ![v153.toNat, 1]
def k0_off8 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_120 : BitVec 32 := 2048#32
  let v182 : BitVec 32 := Scalar.muli v5 c2048_i32_120
  let c768_i32_119 : BitVec 32 := 768#32
  let c320_i32_118 : BitVec 32 := 320#32
  let c2_i32_117 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v178 : BitVec 32 := Scalar.muli c2_i32_117 v18
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v179 : BitVec 32 := Scalar.addi v178 v2
  let v180 : BitVec 32 := Scalar.muli c320_i32_118 v179
  let v181 : BitVec 32 := Scalar.addi c768_i32_119 v180
  let v183 : BitVec 32 := Scalar.addi v182 v181
  let c0_i32_128 : BitVec 32 := 0#32
  ![v183.toNat, 0]
def k0_dev7 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v184 : BitVec 32 := Scalar.muli v2 c16_i32_124
  let v185 : BitVec 32 := Scalar.addi c0_i32_125 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_91 : BitVec 32 := 1#32
  let v139 : BitVec 32 := Scalar.addi v5 c1_i32_91
  let c0_i32_92 : BitVec 32 := 0#32
  let v140 : BitVec 32 := Scalar.addi v139 c0_i32_92
  let c4_i32_93 : BitVec 32 := 4#32
  let c0_i32_94 : BitVec 32 := 0#32
  let v141 : BitVec 1 := Scalar.cmpi .eq c4_i32_93 c0_i32_94
  let c1_i32_95 : BitVec 32 := 1#32
  let v142 : BitVec 32 := Scalar.select v141 c1_i32_95 c4_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let c4_i32_126 : BitVec 32 := 4#32
  let v186 : BitVec 32 := Scalar.muli v150 c4_i32_126
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v188 : BitVec 32 := Scalar.muli v8 c1_i32_127
  let v189 : BitVec 32 := Scalar.addi v187 v188
  v189.toNat
def k0_dev8 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v217 : BitVec 32 := Scalar.muli v2 c16_i32_146
  let v218 : BitVec 32 := Scalar.addi c0_i32_147 v217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v196 : BitVec 32 := Scalar.addi v5 c1_i32_130
  let c1_i32_131 : BitVec 32 := 1#32
  let v197 : BitVec 32 := Scalar.addi v196 c1_i32_131
  let c4_i32_132 : BitVec 32 := 4#32
  let c0_i32_133 : BitVec 32 := 0#32
  let v198 : BitVec 1 := Scalar.cmpi .eq c4_i32_132 c0_i32_133
  let c1_i32_134 : BitVec 32 := 1#32
  let v199 : BitVec 32 := Scalar.select v198 c1_i32_134 c4_i32_132
  let v200 : BitVec 32 := Scalar.remsi v197 v199
  let c0_i32_136 : BitVec 32 := 0#32
  let v202 : BitVec 1 := Scalar.cmpi .slt v200 c0_i32_136
  let c0_i32_137 : BitVec 32 := 0#32
  let v203 : BitVec 1 := Scalar.cmpi .slt v199 c0_i32_137
  let v204 : BitVec 1 := Scalar.xori v202 v203
  let c0_i32_135 : BitVec 32 := 0#32
  let v201 : BitVec 1 := Scalar.cmpi .ne v200 c0_i32_135
  let v205 : BitVec 1 := Scalar.andi v204 v201
  let v206 : BitVec 32 := Scalar.addi v200 v199
  let v207 : BitVec 32 := Scalar.select v205 v206 v200
  let c4_i32_148 : BitVec 32 := 4#32
  let v219 : BitVec 32 := Scalar.muli v207 c4_i32_148
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v221 : BitVec 32 := Scalar.muli v8 c1_i32_149
  let v222 : BitVec 32 := Scalar.addi v220 v221
  v222.toNat
def k0_dev9 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v241 : BitVec 32 := Scalar.muli v2 c16_i32_163
  let v242 : BitVec 32 := Scalar.addi c0_i32_164 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v196 : BitVec 32 := Scalar.addi v5 c1_i32_130
  let c1_i32_131 : BitVec 32 := 1#32
  let v197 : BitVec 32 := Scalar.addi v196 c1_i32_131
  let c4_i32_132 : BitVec 32 := 4#32
  let c0_i32_133 : BitVec 32 := 0#32
  let v198 : BitVec 1 := Scalar.cmpi .eq c4_i32_132 c0_i32_133
  let c1_i32_134 : BitVec 32 := 1#32
  let v199 : BitVec 32 := Scalar.select v198 c1_i32_134 c4_i32_132
  let v200 : BitVec 32 := Scalar.remsi v197 v199
  let c0_i32_136 : BitVec 32 := 0#32
  let v202 : BitVec 1 := Scalar.cmpi .slt v200 c0_i32_136
  let c0_i32_137 : BitVec 32 := 0#32
  let v203 : BitVec 1 := Scalar.cmpi .slt v199 c0_i32_137
  let v204 : BitVec 1 := Scalar.xori v202 v203
  let c0_i32_135 : BitVec 32 := 0#32
  let v201 : BitVec 1 := Scalar.cmpi .ne v200 c0_i32_135
  let v205 : BitVec 1 := Scalar.andi v204 v201
  let v206 : BitVec 32 := Scalar.addi v200 v199
  let v207 : BitVec 32 := Scalar.select v205 v206 v200
  let c4_i32_165 : BitVec 32 := 4#32
  let v243 : BitVec 32 := Scalar.muli v207 c4_i32_165
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v245 : BitVec 32 := Scalar.muli v8 c1_i32_166
  let v246 : BitVec 32 := Scalar.addi v244 v245
  v246.toNat
def k0_dev10 (d0 : Dev nD) : Nat :=
  let c0_i32_186 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_185 : BitVec 32 := 16#32
  let v274 : BitVec 32 := Scalar.muli v2 c16_i32_185
  let v275 : BitVec 32 := Scalar.addi c0_i32_186 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v253 : BitVec 32 := Scalar.addi v5 c1_i32_169
  let c2_i32_170 : BitVec 32 := 2#32
  let v254 : BitVec 32 := Scalar.addi v253 c2_i32_170
  let c4_i32_171 : BitVec 32 := 4#32
  let c0_i32_172 : BitVec 32 := 0#32
  let v255 : BitVec 1 := Scalar.cmpi .eq c4_i32_171 c0_i32_172
  let c1_i32_173 : BitVec 32 := 1#32
  let v256 : BitVec 32 := Scalar.select v255 c1_i32_173 c4_i32_171
  let v257 : BitVec 32 := Scalar.remsi v254 v256
  let c0_i32_175 : BitVec 32 := 0#32
  let v259 : BitVec 1 := Scalar.cmpi .slt v257 c0_i32_175
  let c0_i32_176 : BitVec 32 := 0#32
  let v260 : BitVec 1 := Scalar.cmpi .slt v256 c0_i32_176
  let v261 : BitVec 1 := Scalar.xori v259 v260
  let c0_i32_174 : BitVec 32 := 0#32
  let v258 : BitVec 1 := Scalar.cmpi .ne v257 c0_i32_174
  let v262 : BitVec 1 := Scalar.andi v261 v258
  let v263 : BitVec 32 := Scalar.addi v257 v256
  let v264 : BitVec 32 := Scalar.select v262 v263 v257
  let c4_i32_187 : BitVec 32 := 4#32
  let v276 : BitVec 32 := Scalar.muli v264 c4_i32_187
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v278 : BitVec 32 := Scalar.muli v8 c1_i32_188
  let v279 : BitVec 32 := Scalar.addi v277 v278
  v279.toNat
def k0_dev11 (d0 : Dev nD) : Nat :=
  let c0_i32_203 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_202 : BitVec 32 := 16#32
  let v298 : BitVec 32 := Scalar.muli v2 c16_i32_202
  let v299 : BitVec 32 := Scalar.addi c0_i32_203 v298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v253 : BitVec 32 := Scalar.addi v5 c1_i32_169
  let c2_i32_170 : BitVec 32 := 2#32
  let v254 : BitVec 32 := Scalar.addi v253 c2_i32_170
  let c4_i32_171 : BitVec 32 := 4#32
  let c0_i32_172 : BitVec 32 := 0#32
  let v255 : BitVec 1 := Scalar.cmpi .eq c4_i32_171 c0_i32_172
  let c1_i32_173 : BitVec 32 := 1#32
  let v256 : BitVec 32 := Scalar.select v255 c1_i32_173 c4_i32_171
  let v257 : BitVec 32 := Scalar.remsi v254 v256
  let c0_i32_175 : BitVec 32 := 0#32
  let v259 : BitVec 1 := Scalar.cmpi .slt v257 c0_i32_175
  let c0_i32_176 : BitVec 32 := 0#32
  let v260 : BitVec 1 := Scalar.cmpi .slt v256 c0_i32_176
  let v261 : BitVec 1 := Scalar.xori v259 v260
  let c0_i32_174 : BitVec 32 := 0#32
  let v258 : BitVec 1 := Scalar.cmpi .ne v257 c0_i32_174
  let v262 : BitVec 1 := Scalar.andi v261 v258
  let v263 : BitVec 32 := Scalar.addi v257 v256
  let v264 : BitVec 32 := Scalar.select v262 v263 v257
  let c4_i32_204 : BitVec 32 := 4#32
  let v300 : BitVec 32 := Scalar.muli v264 c4_i32_204
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v302 : BitVec 32 := Scalar.muli v8 c1_i32_205
  let v303 : BitVec 32 := Scalar.addi v301 v302
  v303.toNat
def k0_off9 (d0 : Dev nD) : Fin 2 → Nat :=
  let c1_i32_208 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v310 : BitVec 32 := Scalar.subi c1_i32_208 v29
  let c384_i32_209 : BitVec 32 := 384#32
  let v311 : BitVec 32 := Scalar.muli v310 c384_i32_209
  let v312 : Index := Scalar.indexCast v311
  let c0_210 : Index := 0#32
  ![v312.toNat, 0]
def k0_off10 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_211 : BitVec 32 := 2048#32
  let v315 : BitVec 32 := Scalar.muli v5 c2048_i32_211
  let c1_i32_212 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v316 : BitVec 32 := Scalar.subi c1_i32_212 v29
  let c384_i32_213 : BitVec 32 := 384#32
  let v317 : BitVec 32 := Scalar.muli v316 c384_i32_213
  let v318 : BitVec 32 := Scalar.addi v315 v317
  let v319 : Index := Scalar.indexCast v318
  let c0_214 : Index := 0#32
  ![v319.toNat, 0]
def k0_off11 (d0 : Dev nD) (c0_i32_222 : BitVec 32) (c1_i32_215 : BitVec 32) : Fin 2 → Nat :=
  let c768_i32_231 : BitVec 32 := 768#32
  let c320_i32_230 : BitVec 32 := 320#32
  let c2_i32_229 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v332 : BitVec 32 := Scalar.addi v18 c0_i32_222
  let c2_i32_223 : BitVec 32 := 2#32
  let c0_i32_224 : BitVec 32 := 0#32
  let v333 : BitVec 1 := Scalar.cmpi .eq c2_i32_223 c0_i32_224
  let c1_i32_225 : BitVec 32 := 1#32
  let v334 : BitVec 32 := Scalar.select v333 c1_i32_225 c2_i32_223
  let v335 : BitVec 32 := Scalar.remsi v332 v334
  let c0_i32_227 : BitVec 32 := 0#32
  let v337 : BitVec 1 := Scalar.cmpi .slt v335 c0_i32_227
  let c0_i32_228 : BitVec 32 := 0#32
  let v338 : BitVec 1 := Scalar.cmpi .slt v334 c0_i32_228
  let v339 : BitVec 1 := Scalar.xori v337 v338
  let c0_i32_226 : BitVec 32 := 0#32
  let v336 : BitVec 1 := Scalar.cmpi .ne v335 c0_i32_226
  let v340 : BitVec 1 := Scalar.andi v339 v336
  let v341 : BitVec 32 := Scalar.addi v335 v334
  let v342 : BitVec 32 := Scalar.select v340 v341 v335
  let v343 : BitVec 32 := Scalar.muli c2_i32_229 v342
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v321 : BitVec 32 := Scalar.addi v2 c1_i32_215
  let c2_i32_216 : BitVec 32 := 2#32
  let c0_i32_217 : BitVec 32 := 0#32
  let v322 : BitVec 1 := Scalar.cmpi .eq c2_i32_216 c0_i32_217
  let c1_i32_218 : BitVec 32 := 1#32
  let v323 : BitVec 32 := Scalar.select v322 c1_i32_218 c2_i32_216
  let v324 : BitVec 32 := Scalar.remsi v321 v323
  let c0_i32_220 : BitVec 32 := 0#32
  let v326 : BitVec 1 := Scalar.cmpi .slt v324 c0_i32_220
  let c0_i32_221 : BitVec 32 := 0#32
  let v327 : BitVec 1 := Scalar.cmpi .slt v323 c0_i32_221
  let v328 : BitVec 1 := Scalar.xori v326 v327
  let c0_i32_219 : BitVec 32 := 0#32
  let v325 : BitVec 1 := Scalar.cmpi .ne v324 c0_i32_219
  let v329 : BitVec 1 := Scalar.andi v328 v325
  let v330 : BitVec 32 := Scalar.addi v324 v323
  let v331 : BitVec 32 := Scalar.select v329 v330 v324
  let v344 : BitVec 32 := Scalar.addi v343 v331
  let v345 : BitVec 32 := Scalar.muli c320_i32_230 v344
  let v346 : BitVec 32 := Scalar.addi c768_i32_231 v345
  let v347 : Index := Scalar.indexCast v346
  let c0_232 : Index := 0#32
  ![v347.toNat, 0]
def k0_off11_at (r : Fin 3) : BitVec 32 × BitVec 32 :=
  if r.val < 1 then
    (0#32, 1#32)
  else
    if r.val < 2 then
      (1#32, 2#32)
    else
      (1#32, 3#32)
def k0_off12 (d0 : Dev nD) (c0_i32_222 : BitVec 32) (c1_i32_215 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_233 : BitVec 32 := 2048#32
  let v350 : BitVec 32 := Scalar.muli v5 c2048_i32_233
  let c768_i32_231 : BitVec 32 := 768#32
  let c320_i32_230 : BitVec 32 := 320#32
  let c2_i32_229 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v332 : BitVec 32 := Scalar.addi v18 c0_i32_222
  let c2_i32_223 : BitVec 32 := 2#32
  let c0_i32_224 : BitVec 32 := 0#32
  let v333 : BitVec 1 := Scalar.cmpi .eq c2_i32_223 c0_i32_224
  let c1_i32_225 : BitVec 32 := 1#32
  let v334 : BitVec 32 := Scalar.select v333 c1_i32_225 c2_i32_223
  let v335 : BitVec 32 := Scalar.remsi v332 v334
  let c0_i32_227 : BitVec 32 := 0#32
  let v337 : BitVec 1 := Scalar.cmpi .slt v335 c0_i32_227
  let c0_i32_228 : BitVec 32 := 0#32
  let v338 : BitVec 1 := Scalar.cmpi .slt v334 c0_i32_228
  let v339 : BitVec 1 := Scalar.xori v337 v338
  let c0_i32_226 : BitVec 32 := 0#32
  let v336 : BitVec 1 := Scalar.cmpi .ne v335 c0_i32_226
  let v340 : BitVec 1 := Scalar.andi v339 v336
  let v341 : BitVec 32 := Scalar.addi v335 v334
  let v342 : BitVec 32 := Scalar.select v340 v341 v335
  let v343 : BitVec 32 := Scalar.muli c2_i32_229 v342
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v321 : BitVec 32 := Scalar.addi v2 c1_i32_215
  let c2_i32_216 : BitVec 32 := 2#32
  let c0_i32_217 : BitVec 32 := 0#32
  let v322 : BitVec 1 := Scalar.cmpi .eq c2_i32_216 c0_i32_217
  let c1_i32_218 : BitVec 32 := 1#32
  let v323 : BitVec 32 := Scalar.select v322 c1_i32_218 c2_i32_216
  let v324 : BitVec 32 := Scalar.remsi v321 v323
  let c0_i32_220 : BitVec 32 := 0#32
  let v326 : BitVec 1 := Scalar.cmpi .slt v324 c0_i32_220
  let c0_i32_221 : BitVec 32 := 0#32
  let v327 : BitVec 1 := Scalar.cmpi .slt v323 c0_i32_221
  let v328 : BitVec 1 := Scalar.xori v326 v327
  let c0_i32_219 : BitVec 32 := 0#32
  let v325 : BitVec 1 := Scalar.cmpi .ne v324 c0_i32_219
  let v329 : BitVec 1 := Scalar.andi v328 v325
  let v330 : BitVec 32 := Scalar.addi v324 v323
  let v331 : BitVec 32 := Scalar.select v329 v330 v324
  let v344 : BitVec 32 := Scalar.addi v343 v331
  let v345 : BitVec 32 := Scalar.muli c320_i32_230 v344
  let v346 : BitVec 32 := Scalar.addi c768_i32_231 v345
  let v351 : BitVec 32 := Scalar.addi v350 v346
  let v352 : Index := Scalar.indexCast v351
  let c0_234 : Index := 0#32
  ![v352.toNat, 0]
def k0_off12_at (r : Fin 3) : BitVec 32 × BitVec 32 :=
  if r.val < 1 then
    (0#32, 1#32)
  else
    if r.val < 2 then
      (1#32, 2#32)
    else
      (1#32, 3#32)
def k0_off13 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let v420 : BitVec 1 := Scalar.cmpi .slt v39 v5
  let c1_i32_275 : BitVec 32 := 1#32
  let v421 : BitVec 32 := Scalar.subi v39 c1_i32_275
  let v422 : BitVec 32 := Scalar.select v420 v39 v421
  let c0_i32_280 : BitVec 32 := 0#32
  ![v422.toNat, 0]
def k0_off13_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off14 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_279 : BitVec 32 := 2048#32
  let v427 : BitVec 32 := Scalar.muli v39 c2048_i32_279
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c384_i32_278 : BitVec 32 := 384#32
  let v426 : BitVec 32 := Scalar.muli v29 c384_i32_278
  let v428 : BitVec 32 := Scalar.addi v427 v426
  let c0_i32_287 : BitVec 32 := 0#32
  ![v428.toNat, 0]
def k0_off14_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off15 (d0 : Dev nD) (c1_i32_22 : BitVec 32) (c0_i32_20 : BitVec 32) (c1_i32_17 : BitVec 32) (c2_i32_18 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let v420 : BitVec 1 := Scalar.cmpi .slt v39 v5
  let c1_i32_275 : BitVec 32 := 1#32
  let v421 : BitVec 32 := Scalar.subi v39 c1_i32_275
  let v422 : BitVec 32 := Scalar.select v420 v39 v421
  ![v422.toNat]
def k0_off15_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off16 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_293 : BitVec 32 := 2048#32
  let v447 : BitVec 32 := Scalar.muli v39 c2048_i32_293
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c384_i32_291 : BitVec 32 := 384#32
  let v444 : BitVec 32 := Scalar.muli v29 c384_i32_291
  let c192_i32_292 : BitVec 32 := 192#32
  let v445 : BitVec 32 := Scalar.muli v18 c192_i32_292
  let v446 : BitVec 32 := Scalar.addi v444 v445
  let v448 : BitVec 32 := Scalar.addi v447 v446
  let c0_i32_298 : BitVec 32 := 0#32
  ![v448.toNat, 0]
def k0_off16_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_dev12 (d0 : Dev nD) : Nat :=
  let c0_i32_295 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_294 : BitVec 32 := 16#32
  let v449 : BitVec 32 := Scalar.muli v30 c16_i32_294
  let v450 : BitVec 32 := Scalar.addi c0_i32_295 v449
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v451 : BitVec 32 := Scalar.muli v5 c4_i32_296
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v453 : BitVec 32 := Scalar.muli v8 c1_i32_297
  let v454 : BitVec 32 := Scalar.addi v452 v453
  v454.toNat
def k0_dev13 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_306 : BitVec 32 := 16#32
  let v471 : BitVec 32 := Scalar.muli v2 c16_i32_306
  let v472 : BitVec 32 := Scalar.addi c0_i32_307 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v473 : BitVec 32 := Scalar.muli v5 c4_i32_308
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_309 : BitVec 32 := 1#32
  let v475 : BitVec 32 := Scalar.muli v33 c1_i32_309
  let v476 : BitVec 32 := Scalar.addi v474 v475
  v476.toNat
def k0_off17 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let v420 : BitVec 1 := Scalar.cmpi .slt v39 v5
  let c1_i32_275 : BitVec 32 := 1#32
  let v421 : BitVec 32 := Scalar.subi v39 c1_i32_275
  let v422 : BitVec 32 := Scalar.select v420 v39 v421
  let c1_i32_320 : BitVec 32 := 1#32
  ![v422.toNat, 1]
def k0_off17_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off18 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_319 : BitVec 32 := 2048#32
  let v493 : BitVec 32 := Scalar.muli v39 c2048_i32_319
  let c768_i32_318 : BitVec 32 := 768#32
  let c320_i32_317 : BitVec 32 := 320#32
  let c2_i32_316 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v489 : BitVec 32 := Scalar.muli c2_i32_316 v18
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v490 : BitVec 32 := Scalar.addi v489 v2
  let v491 : BitVec 32 := Scalar.muli c320_i32_317 v490
  let v492 : BitVec 32 := Scalar.addi c768_i32_318 v491
  let v494 : BitVec 32 := Scalar.addi v493 v492
  let c0_i32_327 : BitVec 32 := 0#32
  ![v494.toNat, 0]
def k0_off18_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_dev14 (d0 : Dev nD) : Nat :=
  let c0_i32_338 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_337 : BitVec 32 := 16#32
  let v517 : BitVec 32 := Scalar.muli v30 c16_i32_337
  let v518 : BitVec 32 := Scalar.addi c0_i32_338 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_339 : BitVec 32 := 4#32
  let v519 : BitVec 32 := Scalar.muli v5 c4_i32_339
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v521 : BitVec 32 := Scalar.muli v8 c1_i32_340
  let v522 : BitVec 32 := Scalar.addi v520 v521
  v522.toNat
def k0_dev15 (d0 : Dev nD) : Nat :=
  let c0_i32_352 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_351 : BitVec 32 := 16#32
  let v541 : BitVec 32 := Scalar.muli v2 c16_i32_351
  let v542 : BitVec 32 := Scalar.addi c0_i32_352 v541
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_353 : BitVec 32 := 4#32
  let v543 : BitVec 32 := Scalar.muli v5 c4_i32_353
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_354 : BitVec 32 := 1#32
  let v545 : BitVec 32 := Scalar.muli v33 c1_i32_354
  let v546 : BitVec 32 := Scalar.addi v544 v545
  v546.toNat
def k0_dev16 (d0 : Dev nD) : Nat :=
  let c0_i32_378 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_377 : BitVec 32 := 16#32
  let v582 : BitVec 32 := Scalar.muli v30 c16_i32_377
  let v583 : BitVec 32 := Scalar.addi c0_i32_378 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_379 : BitVec 32 := 4#32
  let v584 : BitVec 32 := Scalar.muli v5 c4_i32_379
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v586 : BitVec 32 := Scalar.muli v8 c1_i32_380
  let v587 : BitVec 32 := Scalar.addi v585 v586
  v587.toNat
def k0_dev17 (d0 : Dev nD) : Nat :=
  let c0_i32_390 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_389 : BitVec 32 := 16#32
  let v604 : BitVec 32 := Scalar.muli v2 c16_i32_389
  let v605 : BitVec 32 := Scalar.addi c0_i32_390 v604
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_391 : BitVec 32 := 4#32
  let v606 : BitVec 32 := Scalar.muli v5 c4_i32_391
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_392 : BitVec 32 := 1#32
  let v608 : BitVec 32 := Scalar.muli v33 c1_i32_392
  let v609 : BitVec 32 := Scalar.addi v607 v608
  v609.toNat
def k0_dev18 (d0 : Dev nD) : Nat :=
  let c0_i32_421 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_420 : BitVec 32 := 16#32
  let v650 : BitVec 32 := Scalar.muli v30 c16_i32_420
  let v651 : BitVec 32 := Scalar.addi c0_i32_421 v650
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_422 : BitVec 32 := 4#32
  let v652 : BitVec 32 := Scalar.muli v5 c4_i32_422
  let v653 : BitVec 32 := Scalar.addi v651 v652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v654 : BitVec 32 := Scalar.muli v8 c1_i32_423
  let v655 : BitVec 32 := Scalar.addi v653 v654
  v655.toNat
def k0_dev19 (d0 : Dev nD) : Nat :=
  let c0_i32_435 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_434 : BitVec 32 := 16#32
  let v674 : BitVec 32 := Scalar.muli v2 c16_i32_434
  let v675 : BitVec 32 := Scalar.addi c0_i32_435 v674
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_436 : BitVec 32 := 4#32
  let v676 : BitVec 32 := Scalar.muli v5 c4_i32_436
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_437 : BitVec 32 := 1#32
  let v678 : BitVec 32 := Scalar.muli v33 c1_i32_437
  let v679 : BitVec 32 := Scalar.addi v677 v678
  v679.toNat
def k0_dev20 (d0 : Dev nD) : Nat :=
  let c0_i32_461 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_460 : BitVec 32 := 16#32
  let v715 : BitVec 32 := Scalar.muli v30 c16_i32_460
  let v716 : BitVec 32 := Scalar.addi c0_i32_461 v715
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_462 : BitVec 32 := 4#32
  let v717 : BitVec 32 := Scalar.muli v5 c4_i32_462
  let v718 : BitVec 32 := Scalar.addi v716 v717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v719 : BitVec 32 := Scalar.muli v8 c1_i32_463
  let v720 : BitVec 32 := Scalar.addi v718 v719
  v720.toNat
def k0_dev21 (d0 : Dev nD) : Nat :=
  let c0_i32_473 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_472 : BitVec 32 := 16#32
  let v737 : BitVec 32 := Scalar.muli v2 c16_i32_472
  let v738 : BitVec 32 := Scalar.addi c0_i32_473 v737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_474 : BitVec 32 := 4#32
  let v739 : BitVec 32 := Scalar.muli v5 c4_i32_474
  let v740 : BitVec 32 := Scalar.addi v738 v739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_475 : BitVec 32 := 1#32
  let v741 : BitVec 32 := Scalar.muli v33 c1_i32_475
  let v742 : BitVec 32 := Scalar.addi v740 v741
  v742.toNat
def k0_dev22 (d0 : Dev nD) : Nat :=
  let c0_i32_504 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_503 : BitVec 32 := 16#32
  let v783 : BitVec 32 := Scalar.muli v30 c16_i32_503
  let v784 : BitVec 32 := Scalar.addi c0_i32_504 v783
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_505 : BitVec 32 := 4#32
  let v785 : BitVec 32 := Scalar.muli v5 c4_i32_505
  let v786 : BitVec 32 := Scalar.addi v784 v785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v787 : BitVec 32 := Scalar.muli v8 c1_i32_506
  let v788 : BitVec 32 := Scalar.addi v786 v787
  v788.toNat
def k0_dev23 (d0 : Dev nD) : Nat :=
  let c0_i32_518 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_517 : BitVec 32 := 16#32
  let v807 : BitVec 32 := Scalar.muli v2 c16_i32_517
  let v808 : BitVec 32 := Scalar.addi c0_i32_518 v807
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_519 : BitVec 32 := 4#32
  let v809 : BitVec 32 := Scalar.muli v5 c4_i32_519
  let v810 : BitVec 32 := Scalar.addi v808 v809
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_520 : BitVec 32 := 1#32
  let v811 : BitVec 32 := Scalar.muli v33 c1_i32_520
  let v812 : BitVec 32 := Scalar.addi v810 v811
  v812.toNat
def k0_off19 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_533 : BitVec 32 := 2048#32
  let v834 : BitVec 32 := Scalar.muli v39 c2048_i32_533
  let c768_i32_532 : BitVec 32 := 768#32
  let c320_i32_531 : BitVec 32 := 320#32
  let c2_i32_530 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v830 : BitVec 32 := Scalar.muli c2_i32_530 v18
  let c1_i32_529 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v829 : BitVec 32 := Scalar.subi c1_i32_529 v2
  let v831 : BitVec 32 := Scalar.addi v830 v829
  let v832 : BitVec 32 := Scalar.muli c320_i32_531 v831
  let v833 : BitVec 32 := Scalar.addi c768_i32_532 v832
  let v835 : BitVec 32 := Scalar.addi v834 v833
  let c0_i32_538 : BitVec 32 := 0#32
  ![v835.toNat, 0]
def k0_off19_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off20 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_550 : BitVec 32 := 2048#32
  let v862 : BitVec 32 := Scalar.muli v39 c2048_i32_550
  let c768_i32_548 : BitVec 32 := 768#32
  let c320_i32_547 : BitVec 32 := 320#32
  let c2_i32_546 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v856 : BitVec 32 := Scalar.muli c2_i32_546 v18
  let c1_i32_545 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v855 : BitVec 32 := Scalar.subi c1_i32_545 v2
  let v857 : BitVec 32 := Scalar.addi v856 v855
  let v858 : BitVec 32 := Scalar.muli c320_i32_547 v857
  let v859 : BitVec 32 := Scalar.addi c768_i32_548 v858
  let c160_i32_549 : BitVec 32 := 160#32
  let v860 : BitVec 32 := Scalar.muli v2 c160_i32_549
  let v861 : BitVec 32 := Scalar.addi v859 v860
  let v863 : BitVec 32 := Scalar.addi v862 v861
  let c0_i32_555 : BitVec 32 := 0#32
  ![v863.toNat, 0]
def k0_off20_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_dev24 (d0 : Dev nD) : Nat :=
  let c0_i32_552 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_551 : BitVec 32 := 16#32
  let v864 : BitVec 32 := Scalar.muli v2 c16_i32_551
  let v865 : BitVec 32 := Scalar.addi c0_i32_552 v864
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_553 : BitVec 32 := 4#32
  let v866 : BitVec 32 := Scalar.muli v5 c4_i32_553
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_554 : BitVec 32 := 1#32
  let v868 : BitVec 32 := Scalar.muli v33 c1_i32_554
  let v869 : BitVec 32 := Scalar.addi v867 v868
  v869.toNat
def k0_off21 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_566 : BitVec 32 := 2048#32
  let v888 : BitVec 32 := Scalar.muli v39 c2048_i32_566
  let c768_i32_565 : BitVec 32 := 768#32
  let c320_i32_564 : BitVec 32 := 320#32
  let c2_i32_563 : BitVec 32 := 2#32
  let c1_i32_562 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v883 : BitVec 32 := Scalar.subi c1_i32_562 v18
  let v884 : BitVec 32 := Scalar.muli c2_i32_563 v883
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v885 : BitVec 32 := Scalar.addi v884 v2
  let v886 : BitVec 32 := Scalar.muli c320_i32_564 v885
  let v887 : BitVec 32 := Scalar.addi c768_i32_565 v886
  let v889 : BitVec 32 := Scalar.addi v888 v887
  let c0_i32_571 : BitVec 32 := 0#32
  ![v889.toNat, 0]
def k0_off21_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off22 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_584 : BitVec 32 := 2048#32
  let v916 : BitVec 32 := Scalar.muli v39 c2048_i32_584
  let c768_i32_582 : BitVec 32 := 768#32
  let c320_i32_581 : BitVec 32 := 320#32
  let c2_i32_580 : BitVec 32 := 2#32
  let c1_i32_579 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v909 : BitVec 32 := Scalar.subi c1_i32_579 v18
  let v910 : BitVec 32 := Scalar.muli c2_i32_580 v909
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v911 : BitVec 32 := Scalar.addi v910 v2
  let v912 : BitVec 32 := Scalar.muli c320_i32_581 v911
  let v913 : BitVec 32 := Scalar.addi c768_i32_582 v912
  let c160_i32_583 : BitVec 32 := 160#32
  let v914 : BitVec 32 := Scalar.muli v2 c160_i32_583
  let v915 : BitVec 32 := Scalar.addi v913 v914
  let v917 : BitVec 32 := Scalar.addi v916 v915
  let c0_i32_589 : BitVec 32 := 0#32
  ![v917.toNat, 0]
def k0_off22_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_dev25 (d0 : Dev nD) : Nat :=
  let c0_i32_586 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_585 : BitVec 32 := 16#32
  let v918 : BitVec 32 := Scalar.muli v30 c16_i32_585
  let v919 : BitVec 32 := Scalar.addi c0_i32_586 v918
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_587 : BitVec 32 := 4#32
  let v920 : BitVec 32 := Scalar.muli v5 c4_i32_587
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_588 : BitVec 32 := 1#32
  let v922 : BitVec 32 := Scalar.muli v8 c1_i32_588
  let v923 : BitVec 32 := Scalar.addi v921 v922
  v923.toNat
def k0_dev26 (d0 : Dev nD) : Nat :=
  let c0_i32_621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_620 : BitVec 32 := 16#32
  let v975 : BitVec 32 := Scalar.muli v2 c16_i32_620
  let v976 : BitVec 32 := Scalar.addi c0_i32_621 v975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_622 : BitVec 32 := 4#32
  let v977 : BitVec 32 := Scalar.muli v5 c4_i32_622
  let v978 : BitVec 32 := Scalar.addi v976 v977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_623 : BitVec 32 := 1#32
  let v979 : BitVec 32 := Scalar.muli v33 c1_i32_623
  let v980 : BitVec 32 := Scalar.addi v978 v979
  v980.toNat
def k0_dev27 (d0 : Dev nD) : Nat :=
  let c0_i32_655 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_654 : BitVec 32 := 16#32
  let v1029 : BitVec 32 := Scalar.muli v30 c16_i32_654
  let v1030 : BitVec 32 := Scalar.addi c0_i32_655 v1029
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_656 : BitVec 32 := 4#32
  let v1031 : BitVec 32 := Scalar.muli v5 c4_i32_656
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_657 : BitVec 32 := 1#32
  let v1033 : BitVec 32 := Scalar.muli v8 c1_i32_657
  let v1034 : BitVec 32 := Scalar.addi v1032 v1033
  v1034.toNat
def k0_dev28 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v1086 : BitVec 32 := Scalar.muli v2 c16_i32_689
  let v1087 : BitVec 32 := Scalar.addi c0_i32_690 v1086
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_691 : BitVec 32 := 4#32
  let v1088 : BitVec 32 := Scalar.muli v5 c4_i32_691
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_14 v18
  let v32 : BitVec 32 := Scalar.subi v8 v31
  let c1_i32_15 : BitVec 32 := 1#32
  let v33 : BitVec 32 := Scalar.addi v32 c1_i32_15
  let c1_i32_692 : BitVec 32 := 1#32
  let v1090 : BitVec 32 := Scalar.muli v33 c1_i32_692
  let v1091 : BitVec 32 := Scalar.addi v1089 v1090
  v1091.toNat
def k0_dev29 (d0 : Dev nD) : Nat :=
  let c0_i32_724 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_723 : BitVec 32 := 16#32
  let v1140 : BitVec 32 := Scalar.muli v30 c16_i32_723
  let v1141 : BitVec 32 := Scalar.addi c0_i32_724 v1140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_725 : BitVec 32 := 4#32
  let v1142 : BitVec 32 := Scalar.muli v5 c4_i32_725
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_726 : BitVec 32 := 1#32
  let v1144 : BitVec 32 := Scalar.muli v8 c1_i32_726
  let v1145 : BitVec 32 := Scalar.addi v1143 v1144
  v1145.toNat
def k0_off23 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_737 : BitVec 32 := 2048#32
  let v1165 : BitVec 32 := Scalar.muli v39 c2048_i32_737
  let c1_i32_734 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v1161 : BitVec 32 := Scalar.subi c1_i32_734 v29
  let c384_i32_735 : BitVec 32 := 384#32
  let v1162 : BitVec 32 := Scalar.muli v1161 c384_i32_735
  let c192_i32_736 : BitVec 32 := 192#32
  let v1163 : BitVec 32 := Scalar.muli v18 c192_i32_736
  let v1164 : BitVec 32 := Scalar.addi v1162 v1163
  let v1166 : BitVec 32 := Scalar.addi v1165 v1164
  let c0_i32_742 : BitVec 32 := 0#32
  ![v1166.toNat, 0]
def k0_off23_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off24 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_753 : BitVec 32 := 2048#32
  let v1189 : BitVec 32 := Scalar.muli v39 c2048_i32_753
  let c1_i32_749 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.addi v2 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v1184 : BitVec 32 := Scalar.subi c1_i32_749 v29
  let c384_i32_751 : BitVec 32 := 384#32
  let v1186 : BitVec 32 := Scalar.muli v1184 c384_i32_751
  let c1_i32_750 : BitVec 32 := 1#32
  let v1185 : BitVec 32 := Scalar.subi c1_i32_750 v18
  let c192_i32_752 : BitVec 32 := 192#32
  let v1187 : BitVec 32 := Scalar.muli v1185 c192_i32_752
  let v1188 : BitVec 32 := Scalar.addi v1186 v1187
  let v1190 : BitVec 32 := Scalar.addi v1189 v1188
  let c0_i32_758 : BitVec 32 := 0#32
  ![v1190.toNat, 0]
def k0_off24_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off25 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_775 : BitVec 32 := 2048#32
  let v1221 : BitVec 32 := Scalar.muli v39 c2048_i32_775
  let c768_i32_773 : BitVec 32 := 768#32
  let c320_i32_772 : BitVec 32 := 320#32
  let c2_i32_771 : BitVec 32 := 2#32
  let c1_i32_769 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v1213 : BitVec 32 := Scalar.subi c1_i32_769 v18
  let v1215 : BitVec 32 := Scalar.muli c2_i32_771 v1213
  let c1_i32_768 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1212 : BitVec 32 := Scalar.subi c1_i32_768 v2
  let v1216 : BitVec 32 := Scalar.addi v1215 v1212
  let v1217 : BitVec 32 := Scalar.muli c320_i32_772 v1216
  let v1218 : BitVec 32 := Scalar.addi c768_i32_773 v1217
  let c1_i32_770 : BitVec 32 := 1#32
  let v1214 : BitVec 32 := Scalar.subi c1_i32_770 v2
  let c160_i32_774 : BitVec 32 := 160#32
  let v1219 : BitVec 32 := Scalar.muli v1214 c160_i32_774
  let v1220 : BitVec 32 := Scalar.addi v1218 v1219
  let v1222 : BitVec 32 := Scalar.addi v1221 v1220
  let c0_i32_780 : BitVec 32 := 0#32
  ![v1222.toNat, 0]
def k0_off25_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off26 (d0 : Dev nD) (c1_i32_22 : BitVec 32) (c0_i32_20 : BitVec 32) (c1_i32_17 : BitVec 32) (c2_i32_18 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v38 : BitVec 1 := Scalar.cmpi .eq v5 c0_i32_21
  let c1_i32_19 : BitVec 32 := 1#32
  let v36 : BitVec 1 := Scalar.cmpi .eq v5 c1_i32_19
  let c2_i32_16 : BitVec 32 := 2#32
  let v34 : BitVec 1 := Scalar.cmpi .eq v5 c2_i32_16
  let v35 : BitVec 32 := Scalar.select v34 c1_i32_17 c2_i32_18
  let v37 : BitVec 32 := Scalar.select v36 c0_i32_20 v35
  let v39 : BitVec 32 := Scalar.select v38 c1_i32_22 v37
  let c2048_i32_795 : BitVec 32 := 2048#32
  let v1251 : BitVec 32 := Scalar.muli v39 c2048_i32_795
  let c768_i32_793 : BitVec 32 := 768#32
  let c320_i32_792 : BitVec 32 := 320#32
  let c2_i32_791 : BitVec 32 := 2#32
  let c1_i32_790 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v1244 : BitVec 32 := Scalar.subi c1_i32_790 v18
  let v1245 : BitVec 32 := Scalar.muli c2_i32_791 v1244
  let c1_i32_789 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1243 : BitVec 32 := Scalar.subi c1_i32_789 v2
  let v1246 : BitVec 32 := Scalar.addi v1245 v1243
  let v1247 : BitVec 32 := Scalar.muli c320_i32_792 v1246
  let v1248 : BitVec 32 := Scalar.addi c768_i32_793 v1247
  let c160_i32_794 : BitVec 32 := 160#32
  let v1249 : BitVec 32 := Scalar.muli v2 c160_i32_794
  let v1250 : BitVec 32 := Scalar.addi v1248 v1249
  let v1252 : BitVec 32 := Scalar.addi v1251 v1250
  let c0_i32_800 : BitVec 32 := 0#32
  ![v1252.toNat, 0]
def k0_off26_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Same.lean ====
/-
# The kernel and the kernel in exact arithmetic are one text

Over any float values the two programs are the same, so that a run of one is a run of the other.
-/
module

public import proofs.«01_k».proof.Proof.Gen.Kernel
public import proofs.«01_k».proof.Proof.Gen.KernelIdeal

@[expose] public section

namespace Cert.Gather

open Idealize.ShloMosaic

variable {F : FTy → Type} [FloatOps F]

/-- The two bodies are the same. -/
theorem body_same : Kernel.cc0_body (F := F) = KernelIdeal.cc0_body (F := F) := rfl

/-- So are the tables of bodies: the one label there is runs the body. -/
theorem bodies_same : Kernel.defs₀ (F := F) = KernelIdeal.defs₀ (F := F) := by
  unfold Kernel.defs₀ KernelIdeal.defs₀
  rw [body_same]
  refine congrArg Defs.onTc (funext fun l => funext fun a => ?_)
  rcases l with ⟨_ | n, h⟩
  · obtain ⟨t, s⟩ := a
    rfl
  · exact absurd h (Nat.not_lt.2 (Nat.le_add_left _ _))

/-- So are the tables with the pipelines. -/
theorem defs_same : Kernel.defs (F := F) = KernelIdeal.defs (F := F) := by
  unfold Kernel.defs KernelIdeal.defs
  rw [bodies_same]
  rfl

end Cert.Gather

end
-- ==== Proof.Mesh.lean ====
/-
# The mesh and the rows

The 32 devices form a mesh 2 × 4 × 4 of coordinates `x`, `y`, `z`; device `c` has `x = c / 16`, `y = c / 4 % 4`,
`z = c % 4`. The output has 8192 rows, 2048 for every value of `y`. All windows that the kernel moves start and end at a
multiple of 32 rows, so the arithmetic here counts in units of 32 rows: 256 units, 64 for every `y`.

Nothing here mentions a program: natural numbers below fixed bounds, each fact decided over the devices.
-/
module

public import proofs.«01_k».proof.Proof.Gen.KernelIdeal

@[expose] public section

namespace Cert.Gather

open Cert.KernelIdeal Idealize.ShloMosaic

/-! ## Devices -/

/-- The coordinates of device `c`; `zp` is the parity of `z`, `cl` the class `(x + zp) mod 2`. -/
def cx (c : Dev nD) : ℕ := c.val / 16
def cy (c : Dev nD) : ℕ := c.val / 4 % 4
def zp (c : Dev nD) : ℕ := c.val % 2
def cl (c : Dev nD) : ℕ := (cx c + zp c) % 2

set_option backward.proofsInPublic true in
/-- The device with the other `x`. -/
def partner (c : Dev nD) : Dev nD := ⟨(c.val + 16) % 32, Nat.mod_lt _ (by decide)⟩
set_option backward.proofsInPublic true in
/-- The device with the other `z` of the pair `{0,1}` or `{2,3}`. -/
def buddy (c : Dev nD) : Dev nD := ⟨(if c.val % 2 = 0 then c.val + 1 else c.val - 1) % 32, Nat.mod_lt _ (by decide)⟩
set_option backward.proofsInPublic true in
/-- The device with `y` replaced by `(y + 1 + t) mod 4`. -/
def peer (c : Dev nD) (t : Fin 3) : Dev nD :=
  ⟨(16 * (c.val / 16) + 4 * ((c.val / 4 + 1 + t.val) % 4) + c.val % 4) % 32, Nat.mod_lt _ (by decide)⟩
set_option backward.proofsInPublic true in
/-- The device with `y` replaced by `b`. -/
def setY (c : Dev nD) (b : ℕ) : Dev nD :=
  ⟨(16 * (c.val / 16) + 4 * (b % 4) + c.val % 4) % 32, Nat.mod_lt _ (by decide)⟩

/-! ## The copies of a device

Eight channels, three copies on each: the class rows and the quarter rows to the three devices of other `y`
(channels 0 and 1), the relays of received rows to the partner and to the buddy (2, 3 and 4, 5), and the second relays
(6 to the partner, 7 to the buddy). -/

abbrev Ch : Type := Fin 8
abbrev Leg : Type := Ch × Fin 3

set_option backward.proofsInPublic true in
/-- The slot of the block of rows of `y = b` among the three blocks that device `c` receives. -/
def slotOf (c : Dev nD) (b : ℕ) : Fin 3 := ⟨(if b < cy c then b else b - 1) % 3, Nat.mod_lt _ (by decide)⟩
/-- The block in slot `s`. -/
def srcOf (c : Dev nD) (s : Fin 3) : ℕ := if s.val < cy c then s.val else s.val + 1

/-- The device that copy `g` of device `c` writes. -/
def tgt (c : Dev nD) (g : Leg) : Dev nD :=
  if g.1.val < 2 then peer c g.2 else if g.1 = 2 ∨ g.1 = 3 ∨ g.1 = 6 then partner c else buddy c
/-- The slot there. -/
def rslot (c : Dev nD) (g : Leg) : Fin 3 := if g.1.val < 2 then slotOf (tgt c g) (cy c) else g.2

set_option backward.proofsInPublic true in
/-- The device whose copy lands at device `p`'s slot, and which of its copies it is. -/
def from' (p : Dev nD) (g : Leg) : Dev nD :=
  if g.1.val < 2 then setY p (srcOf p g.2) else if g.1 = 2 ∨ g.1 = 3 ∨ g.1 = 6 then partner p else buddy p
set_option backward.proofsInPublic true in
def fromLeg (p : Dev nD) (g : Leg) : Leg :=
  (g.1, if g.1.val < 2 then ⟨(cy p + 7 - srcOf p g.2) % 4 % 3, Nat.mod_lt _ (by decide)⟩ else g.2)

set_option maxRecDepth 100000 in
/-- Sending and receiving are inverse: every slot of every device is written by exactly one copy. -/
def legEquiv : Dev nD × Leg ≃ Dev nD × Leg where
  toFun p := (tgt p.1 p.2, (p.2.1, rslot p.1 p.2))
  invFun p := (from' p.1 p.2, fromLeg p.1 p.2)
  left_inv := by decide +kernel
  right_inv := by decide +kernel

/-- The five devices that device `c` signals, and the number that each gives to `c` among the five that signal it. -/
def sigTo (c : Dev nD) (k : Fin 5) : Dev nD :=
  if h : k.val < 3 then peer c ⟨k.val, h⟩ else if k = 3 then partner c else buddy c
def sigDuty (k : Fin 5) : Fin 5 := if k = 0 then 2 else if k = 2 then 0 else k

theorem sigDuty_sigDuty : ∀ k : Fin 5, sigDuty (sigDuty k) = k := by decide

/-- Signals: each device's five come from five devices. -/
def sigEquiv : Dev nD × Fin 5 ≃ Dev nD × Fin 5 where
  toFun p := (sigTo p.1 p.2, sigDuty p.2)
  invFun p := (sigTo p.1 p.2, sigDuty p.2)
  left_inv := by decide +kernel
  right_inv := by decide +kernel

/-- The order in which device `c` treats its slots in its three loops. -/
def ordBlk (c : Dev nD) (j : Fin 3) : ℕ :=
  (![![1, 0, 1, 2], ![2, 2, 3, 1], ![3, 3, 0, 0]] : Fin 3 → Fin 4 → ℕ) j ⟨cy c % 4, Nat.mod_lt _ (by decide)⟩
def ord (c : Dev nD) (j : Fin 3) : Fin 3 := slotOf c (ordBlk c j)
def ordInv (c : Dev nD) (s : Fin 3) : Fin 3 := if ord c 0 = s then 0 else if ord c 1 = s then 1 else 2

def ordEquiv (c : Dev nD) : Fin 3 ≃ Fin 3 where
  toFun := ord c
  invFun := ordInv c
  left_inv := by revert c; decide +kernel
  right_inv := by revert c; decide +kernel

/-- The slot in which device `c` receives from its peer `t`. -/
def peerSlot (c : Dev nD) (t : Fin 3) : Fin 3 := slotOf c (cy (peer c t))
def peerSlotInv (c : Dev nD) (s : Fin 3) : Fin 3 := if peerSlot c 0 = s then 0 else if peerSlot c 1 = s then 1 else 2
def peerEquiv (c : Dev nD) : Fin 3 ≃ Fin 3 where
  toFun := peerSlot c
  invFun := peerSlotInv c
  left_inv := by revert c; decide +kernel
  right_inv := by revert c; decide +kernel

/-! ## The windows, in units of 32 rows -/

/-- Where the quarter of position `(xx, zz)` starts in a block. -/
def qoff (xx zz : ℕ) : ℕ := 24 + 10 * (2 * zz + xx)

/-- Start of the window that device `c` receives on channel `g.1` in slot `g.2`. -/
def rlo (c : Dev nD) (g : Leg) : ℕ :=
  64 * srcOf c g.2 + (![12 * cl c, qoff (cx c) (zp c), 12 * (1 - cl c) + 6 * zp c, qoff (1 - cx c) (zp c),
    12 * (1 - cl c) + 6 * (1 - zp c), qoff (cx c) (1 - zp c),
    qoff (1 - cx c) (1 - zp c) + 5 * (1 - cx c), qoff (1 - cx c) (1 - zp c) + 5 * cx c] : Fin 8 → ℕ) g.1
/-- Its length. -/
def rln (ch : Ch) : ℕ := (![12, 10, 6, 10, 6, 10, 5, 5] : Fin 8 → ℕ) ch

/-- Start of the window that copy `g` of device `c` reads there and writes at its target: the target's receiving window. -/
def slo (c : Dev nD) (g : Leg) : ℕ := rlo (tgt c g) (g.1, rslot c g)

/-- The windows of a device's own block, in the order it fills them: its class half, its quarter, the other class half,
    the other three quarters. -/
def olo (c : Dev nD) (k : Fin 6) : ℕ :=
  64 * cy c + (![12 * cl c, qoff (cx c) (zp c), 12 * (1 - cl c), qoff ((cx c + 1) % 2) (zp c % 2),
    qoff (cx c % 2) ((zp c + 1) % 2), qoff ((cx c + 1) % 2) ((zp c + 1) % 2)] : Fin 6 → ℕ) k
def oln (k : Fin 6) : ℕ := (![12, 10, 12, 10, 10, 10] : Fin 6 → ℕ) k

/-- All windows of a device: six of its own block, twenty-four that it receives. -/
abbrev Win : Type := Fin 6 ⊕ Leg
def wlo (c : Dev nD) : Win → ℕ := Sum.elim (olo c) (rlo c)
def wln : Win → ℕ := Sum.elim oln fun g => rln g.1

/-- The window that holds unit `u` of device `c`. -/
def ownBlkWin (c : Dev nD) (a : ℕ) : Fin 6 :=
  if a < 24 then (if a / 12 = cl c then 0 else 2)
  else if (a - 24) / 10 % 2 = cx c then (if (a - 24) / 20 = zp c then 1 else 4) else (if (a - 24) / 20 = zp c then 3 else 5)
def recvCh (c : Dev nD) (a : ℕ) : Ch :=
  if a < 24 then (if a / 12 = cl c then 0 else if a / 6 % 2 = zp c then 2 else 4)
  else if (a - 24) / 10 % 2 = cx c then (if (a - 24) / 20 = zp c then 1 else 5)
  else if (a - 24) / 20 = zp c then 3 else if (a - 24) / 5 % 2 = cx c then 7 else 6
def winOf (c : Dev nD) (u : ℕ) : Win :=
  if u / 64 = cy c then .inl (ownBlkWin c (u % 64)) else .inr (recvCh c (u % 64), slotOf c (u / 64))

set_option maxRecDepth 100000 in
/-- Every unit lies in the window that `winOf` names. -/
theorem winOf_mem : ∀ (c : Dev nD) (u : Fin 256), wlo c (winOf c u.val) ≤ u.val ∧ u.val < wlo c (winOf c u.val) + wln (winOf c u.val) := by
  decide +kernel

set_option maxRecDepth 100000 in
/-- And every unit of a window lies in no other. -/
theorem winOf_own : ∀ (c : Dev nD) (k : Fin 6) (d : Fin 12), d.val < oln k → winOf c (olo c k + d.val) = .inl k := by decide +kernel
set_option maxRecDepth 100000 in
theorem winOf_recv : ∀ (c : Dev nD) (g : Leg) (d : Fin 12), d.val < rln g.1 → winOf c (rlo c g + d.val) = .inr g := by decide +kernel

theorem olo_le : ∀ (c : Dev nD) (k : Fin 6), olo c k + oln k ≤ 256 := by decide +kernel
theorem rlo_le : ∀ (c : Dev nD) (g : Leg), rlo c g + rln g.1 ≤ 256 := by decide +kernel
theorem oln_le : ∀ k : Fin 6, oln k ≤ 12 := by decide
theorem rln_le : ∀ ch : Ch, rln ch ≤ 12 := by decide

/-! ## Where each row comes from -/

/-- The device whose argument block unit `u` of device `c`'s output holds in the end. -/
def orig (c : Dev nD) (u : ℕ) : Dev nD :=
  if u / 64 = cy c then c
  else setY (if u % 64 < 24 then (if u % 64 / 12 = cl c then c else if u % 64 / 6 % 2 = zp c then partner c else buddy c)
    else if (u % 64 - 24) / 10 % 2 = cx c then (if (u % 64 - 24) / 20 = zp c then c else buddy c)
    else if (u % 64 - 24) / 20 = zp c then partner c else partner (buddy c)) (u / 64)

set_option maxRecDepth 100000 in
/-- A copy writes at its target what belongs there: on the window of a copy the sender's rows and the target's come from
    one device. -/
theorem orig_send : ∀ (c : Dev nD) (g : Leg) (d : Fin 12), d.val < rln g.1 → orig c (slo c g + d.val) = orig (tgt c g) (slo c g + d.val) := by
  decide +kernel

/-- A device's own block is its own. -/
theorem orig_own (c : Dev nD) (u : ℕ) (h : u / 64 = cy c) : orig c u = c := if_pos h
theorem olo_div : ∀ (c : Dev nD) (k : Fin 6) (d : Fin 12), d.val < oln k → (olo c k + d.val) / 64 = cy c := by decide +kernel

set_option maxRecDepth 100000 in
/-- The rows of the block of `y = b` come from a device with `y = b`. -/
theorem cy_orig : ∀ (c : Dev nD) (u : Fin 256), cy (orig c u.val) = u.val / 64 := by decide +kernel

/-! ## Which received window a relay reads -/

/-- The own window that the copies of channels 0 and 1 read. -/
theorem slo_own : ∀ (c : Dev nD) (t : Fin 3), slo c (0, t) = olo c 0 ∧ slo c (1, t) = olo c 1 := by decide +kernel
/-- The two relays of a received class half are of one half of it; -/
theorem slo_del : ∀ (c : Dev nD) (s : Fin 3), slo c (2, s) = slo c (4, s) ∧ rlo c (0, s) ≤ slo c (2, s) ∧ slo c (2, s) + 6 ≤ rlo c (0, s) + 12 := by
  decide +kernel
/-- the two of a received quarter are of all of it; -/
theorem slo_sig : ∀ (c : Dev nD) (s : Fin 3), slo c (3, s) = rlo c (1, s) ∧ slo c (5, s) = rlo c (1, s) := by decide +kernel
/-- and the second relays of a half of the quarter that came from the partner, or from the buddy. -/
theorem slo_zrel : ∀ (c : Dev nD) (s : Fin 3), rlo c (3, s) ≤ slo c (7, s) ∧ slo c (7, s) + 5 ≤ rlo c (3, s) + 10 := by decide +kernel
theorem slo_xrel : ∀ (c : Dev nD) (s : Fin 3), rlo c (5, s) ≤ slo c (6, s) ∧ slo c (6, s) + 5 ≤ rlo c (5, s) + 10 := by decide +kernel

end Cert.Gather

end
-- ==== Proof.Program.lean ====
/-
# The kernel's body as one sequence

The printed body is a chain of parts. Here it is written once more, as one sequence of its operations on the launch's own
buffers, with its three loops written once over the loop's index, and proved equal to the printed one by unfolding. Four
operations occur: a copy of rows within a device (two loads and a store), a remote copy, a wait for a copy, and the
handshake of signals and one wait at the start.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.Gather

open Cert.KernelIdeal Cert.KernelIdeal.Gen Idealize.ShloMosaic Idealize.SL Idealize.SL.Sem

variable {F : FTy → Type} [FloatOps F]

/-- The staged argument and the staged output. -/
abbrev iM : Memref sig .tc .vmem S2048x512 .bf16 := Memref.whole cc0_stg0_0
abbrev oM : Memref sig .tc .vmem S8192x512 .bf16 := Memref.whole cc0_stg1_0

/-- The runtime's barrier semaphore. -/
abbrev barS : Sem sig := (SemArray.scalar (sig.barrier 0 rfl) : Sems sig S_).sem

abbrev Body (F : FTy → Type) : Type 1 := Prog (TpuEff nD τ sig (Elt F) Λ₀ .tc) PUnit

/-- A window of the output. -/
abbrev rOut (off sz : Fin 2 → ℕ) (h : ∀ a, off a + sz a ≤ S8192x512.size a) : Rect S8192x512 := Rect.unit (s := S8192x512) off sz h
abbrev rIn (off sz : Fin 2 → ℕ) (h : ∀ a, off a + sz a ≤ S2048x512.size a) : Rect S2048x512 := Rect.unit (s := S2048x512) off sz h
abbrev oWin (off sz : Fin 2 → ℕ) (h : ∀ a, off a + sz a ≤ S8192x512.size a) : Memref sig .tc .vmem ⟨2, sz⟩ .bf16 :=
  oM.slice (rOut off sz h) (fun _ => rfl)

/-- A remote copy of a window of the output to the same window of device `n`. -/
def sendOp (off sz : Fin 2 → ℕ) (h : ∀ a, off a + sz a ≤ S8192x512.size a) (hw : (rOut off sz h).WholeWords (EltTy.packing .bf16))
    (n : Dev nD) (s₁ s₂ : DmaSem sig) (k : Body F) : Body F :=
  Prog.op (.enqueueDma (oWin off sz h) (.remote (Dev.tc n) (oWin off sz h) (.dma s₁)) (.dma s₂)
    ((Memref.isWhole_whole cc0_stg1_0).wordExact_slice rfl _ hw) ((Memref.isWhole_whole cc0_stg1_0).wordExact_slice rfl _ hw)
    ⟨⟨rfl, Or.inl rfl⟩, trivial⟩) fun _ => k

/-- A wait on semaphore `s` for the rows of a window. -/
def waitOp (off sz : Fin 2 → ℕ) (h : ∀ a, off a + sz a ≤ S8192x512.size a) (hw : (rOut off sz h).WholeWords (EltTy.packing .bf16))
    (s : DmaSem sig) (k : Body F) : Body F :=
  Prog.op (.waitDma2 s (oWin off sz h) (oWin off sz h)
    ((Memref.isWhole_whole cc0_stg1_0).wordExact_slice rfl _ hw) ((Memref.isWhole_whole cc0_stg1_0).wordExact_slice rfl _ hw)) fun _ => k

/-- A copy of rows of the argument into the output. -/
def copyOp (offI offO sz : Fin 2 → ℕ) (hI : ∀ a, offI a + sz a ≤ S2048x512.size a) (hO : ∀ a, offO a + sz a ≤ S8192x512.size a)
    (hn : 0 < (⟨2, sz⟩ : Shape).numel) (hc : (⟨2, sz⟩ : Shape).ShapeCasts ⟨2, sz⟩)
    (hp : (rOut offO sz hO).PackedRows (EltTy.packing .bf16)) (k : Body F) : Body F :=
  Prog.op (.load iM (rIn offI sz hI).toLoadRect (View.loadsAt_vmem hn)) fun v =>
  Prog.op (.load oM (rOut offO sz hO).toLoadRect (View.loadsAt_vmem hn)) fun _ =>
  Prog.op (.store oM (rOut offO sz hO) (shapeCast ⟨2, sz⟩ v hc) Finset.univ
    (View.stores_vmem hn ((Memref.isWhole_whole cc0_stg1_0).storeExact_slice rfl _ hp) (fun _ => rfl)) (.inl rfl)) fun _ => k

/-- A signal of one to device `n`'s barrier. -/
def sigOp (n : Dev nD) (k : Body F) : Body F := Prog.op (.semSignal (Dev.tc n) barS (1#32 : BitVec 32).toInt) fun _ => k

/-- The semaphore at one place of an array. -/
abbrev at2 (a : DmaSems sig S3x2) (off : Fin 2 → ℕ) (h : ∀ i, off i + S1x1.size i ≤ S3x2.size i) : DmaSem sig :=
  ((a.slice (Rect.unit (s := S3x2) off S1x1.size h)).squeeze S_ squeezes_S1x1_S_).sem
abbrev at1 (a : DmaSems sig S3) (off : Fin 1 → ℕ) (h : ∀ i, off i + S1.size i ≤ S3.size i) : DmaSem sig :=
  ((a.slice (Rect.unit (s := S3) off S1.size h)).squeeze S_ squeezes_S1_S_).sem

abbrev P4 : Type := BitVec 32 × BitVec 32 × BitVec 32 × BitVec 32
abbrev ap {α : Type} (f : Dev nD → BitVec 32 → BitVec 32 → BitVec 32 → BitVec 32 → α) (d : Dev nD) (p : P4) : α := f d p.1 p.2.1 p.2.2.1 p.2.2.2

set_option backward.proofsInPublic true in
theorem inb2 (t : Fin 3) (b : Fin 2) : ∀ i, (![t.val, b.val] : Fin 2 → ℕ) i + S1x1.size i ≤ S3x2.size i := by
  revert t b; decide

section
variable (d : Dev nD)

/-- The semaphores of slot `ord j` of the relays. -/
abbrev rsem (a : DmaSems sig S3) (j : Fin 3) : DmaSem sig := at1 a (ap k0_off15 d (k0_off15_at j)) (k0_off15_inb d j)

abbrev s15 : Fin 2 → ℕ := S160x512.size
abbrev s19 : Fin 2 → ℕ := S192x512.size
abbrev s32 : Fin 2 → ℕ := S320x512.size
abbrev s38 : Fin 2 → ℕ := S384x512.size

/-- The two remote copies to peer `t`. -/
def ySend (t : Fin 3) (n n' : Dev nD) (k : Body F) : Body F :=
  sendOp (k0_off6 d) s38 (k0_off6_inb d) (k0_off6_wordsbf16 d) n (at2 cc0_scratch0 ![t.val, (0 : Fin 2).val] (inb2 t 0))
    (at2 cc0_scratch1 (k0_off5 d (BitVec.ofNat 32 t.val)) (k0_off5_inb d t)) <|
  sendOp (k0_off8 d) s32 (k0_off8_inb d) (k0_off8_wordsbf16 d) n' (at2 cc0_scratch0 ![t.val, (1 : Fin 2).val] (inb2 t 1))
    (at2 cc0_scratch1 (k0_off7 d (BitVec.ofNat 32 t.val)) (k0_off7_inb d t)) k

/-- One turn of the first loop: the class half arrives and is relayed, then the quarter. -/
def turnA (j : Fin 3) (n₁ n₂ n₃ n₄ : Dev nD) (k : Body F) : Body F :=
  waitOp (ap k0_off14 d (k0_off14_at j)) s38 (k0_off14_inb d j) (k0_off14_wordsbf16 d j)
    (at2 cc0_scratch1 (ap k0_off13 d (k0_off13_at j)) (k0_off13_inb d j)) <|
  sendOp (ap k0_off16 d (k0_off16_at j)) s19 (k0_off16_inb d j) (k0_off16_wordsbf16 d j) n₁ (rsem d cc0_scratch2 j) (rsem d cc0_scratch3 j) <|
  sendOp (ap k0_off16 d (k0_off16_at j)) s19 (k0_off16_inb d j) (k0_off16_wordsbf16 d j) n₂ (rsem d cc0_scratch6 j) (rsem d cc0_scratch7 j) <|
  waitOp (ap k0_off18 d (k0_off18_at j)) s32 (k0_off18_inb d j) (k0_off18_wordsbf16 d j)
    (at2 cc0_scratch1 (ap k0_off17 d (k0_off17_at j)) (k0_off17_inb d j)) <|
  sendOp (ap k0_off18 d (k0_off18_at j)) s32 (k0_off18_inb d j) (k0_off18_wordsbf16 d j) n₃ (rsem d cc0_scratch4 j) (rsem d cc0_scratch5 j) <|
  sendOp (ap k0_off18 d (k0_off18_at j)) s32 (k0_off18_inb d j) (k0_off18_wordsbf16 d j) n₄ (rsem d cc0_scratch8 j) (rsem d cc0_scratch9 j) k

/-- One turn of the second loop: the relayed quarters arrive and a half of each is relayed once more. -/
def turnB (j : Fin 3) (n₁ n₂ : Dev nD) (k : Body F) : Body F :=
  waitOp (ap k0_off19 d (k0_off19_at j)) s32 (k0_off19_inb d j) (k0_off19_wordsbf16 d j) (rsem d cc0_scratch5 j) <|
  sendOp (ap k0_off20 d (k0_off20_at j)) s15 (k0_off20_inb d j) (k0_off20_wordsbf16 d j) n₁ (rsem d cc0_scratch12 j) (rsem d cc0_scratch13 j) <|
  waitOp (ap k0_off21 d (k0_off21_at j)) s32 (k0_off21_inb d j) (k0_off21_wordsbf16 d j) (rsem d cc0_scratch9 j) <|
  sendOp (ap k0_off22 d (k0_off22_at j)) s15 (k0_off22_inb d j) (k0_off22_wordsbf16 d j) n₂ (rsem d cc0_scratch10 j) (rsem d cc0_scratch11 j) k

/-- One turn of the third loop: the last four windows of a slot arrive. -/
def turnC (j : Fin 3) (k : Body F) : Body F :=
  waitOp (ap k0_off23 d (k0_off23_at j)) s19 (k0_off23_inb d j) (k0_off23_wordsbf16 d j) (rsem d cc0_scratch3 j) <|
  waitOp (ap k0_off24 d (k0_off24_at j)) s19 (k0_off24_inb d j) (k0_off24_wordsbf16 d j) (rsem d cc0_scratch7 j) <|
  waitOp (ap k0_off25 d (k0_off25_at j)) s15 (k0_off25_inb d j) (k0_off25_wordsbf16 d j) (rsem d cc0_scratch11 j) <|
  waitOp (ap k0_off26 d (k0_off26_at j)) s15 (k0_off26_inb d j) (k0_off26_wordsbf16 d j) (rsem d cc0_scratch13 j) k

/-- The waits for the two copies to peer `t` to have left. -/
def yDone (t : Fin 3) (k : Body F) : Body F :=
  waitOp (k0_off6 d) s38 (k0_off6_inb d) (k0_off6_wordsbf16 d) (at2 cc0_scratch0 ![t.val, (0 : Fin 2).val] (inb2 t 0)) <|
  waitOp (k0_off8 d) s32 (k0_off8_inb d) (k0_off8_wordsbf16 d) (at2 cc0_scratch0 ![t.val, (1 : Fin 2).val] (inb2 t 1)) k

/-- The waits for a slot's relays to have left. -/
def turnD (j : Fin 3) (k : Body F) : Body F :=
  waitOp (ap k0_off16 d (k0_off16_at j)) s19 (k0_off16_inb d j) (k0_off16_wordsbf16 d j) (rsem d cc0_scratch2 j) <|
  waitOp (ap k0_off16 d (k0_off16_at j)) s19 (k0_off16_inb d j) (k0_off16_wordsbf16 d j) (rsem d cc0_scratch6 j) <|
  waitOp (ap k0_off18 d (k0_off18_at j)) s32 (k0_off18_inb d j) (k0_off18_wordsbf16 d j) (rsem d cc0_scratch4 j) <|
  waitOp (ap k0_off18 d (k0_off18_at j)) s32 (k0_off18_inb d j) (k0_off18_wordsbf16 d j) (rsem d cc0_scratch8 j) <|
  waitOp (ap k0_off20 d (k0_off20_at j)) s15 (k0_off20_inb d j) (k0_off20_wordsbf16 d j) (rsem d cc0_scratch12 j) <|
  waitOp (ap k0_off22 d (k0_off22_at j)) s15 (k0_off22_inb d j) (k0_off22_wordsbf16 d j) (rsem d cc0_scratch10 j) k

/-- A quarter of the own block that no copy sends, `r` of three. -/
def copyQ (r : Fin 3) (k : Body F) : Body F :=
  copyOp (k0_off11 d (k0_off11_at r).1 (k0_off11_at r).2) (k0_off12 d (k0_off12_at r).1 (k0_off12_at r).2) s32 (k0_off11_inb d r) (k0_off12_inb d r)
    h_S320x512 shapeCasts_S320x512_S320x512 (k0_off12_packedbf16 d r) k

/-- The whole body. -/
def flat : Body F :=
  sigOp ⟨k0_dev1 d, k0_dev1_lt d⟩ <| sigOp ⟨k0_dev2 d, k0_dev2_lt d⟩ <| sigOp ⟨k0_dev3 d, k0_dev3_lt d⟩ <|
  sigOp ⟨k0_dev4 d, k0_dev4_lt d⟩ <| sigOp ⟨k0_dev5 d, k0_dev5_lt d⟩ <|
  Prog.op (.semWait barS (5#32 : BitVec 32).toInt) fun _ =>
  copyOp (k0_off1 d) (k0_off2 d) s38 (k0_off1_inb d) (k0_off2_inb d) h_S384x512 shapeCasts_S384x512_S384x512 (k0_off2_packedbf16 d) <|
  copyOp (k0_off3 d) (k0_off4 d) s32 (k0_off3_inb d) (k0_off4_inb d) h_S320x512 shapeCasts_S320x512_S320x512 (k0_off4_packedbf16 d) <|
  ySend d 0 ⟨k0_dev6 d, k0_dev6_lt d⟩ ⟨k0_dev7 d, k0_dev7_lt d⟩ <|
  ySend d 1 ⟨k0_dev8 d, k0_dev8_lt d⟩ ⟨k0_dev9 d, k0_dev9_lt d⟩ <|
  ySend d 2 ⟨k0_dev10 d, k0_dev10_lt d⟩ ⟨k0_dev11 d, k0_dev11_lt d⟩ <|
  copyOp (k0_off9 d) (k0_off10 d) s38 (k0_off9_inb d) (k0_off10_inb d) h_S384x512 shapeCasts_S384x512_S384x512 (k0_off10_packedbf16 d) <|
  copyQ d 0 <| copyQ d 1 <| copyQ d 2 <|
  turnA d 0 ⟨k0_dev12 d, k0_dev12_lt d⟩ ⟨k0_dev13 d, k0_dev13_lt d⟩ ⟨k0_dev14 d, k0_dev14_lt d⟩ ⟨k0_dev15 d, k0_dev15_lt d⟩ <|
  turnA d 1 ⟨k0_dev16 d, k0_dev16_lt d⟩ ⟨k0_dev17 d, k0_dev17_lt d⟩ ⟨k0_dev18 d, k0_dev18_lt d⟩ ⟨k0_dev19 d, k0_dev19_lt d⟩ <|
  turnA d 2 ⟨k0_dev20 d, k0_dev20_lt d⟩ ⟨k0_dev21 d, k0_dev21_lt d⟩ ⟨k0_dev22 d, k0_dev22_lt d⟩ ⟨k0_dev23 d, k0_dev23_lt d⟩ <|
  turnB d 0 ⟨k0_dev24 d, k0_dev24_lt d⟩ ⟨k0_dev25 d, k0_dev25_lt d⟩ <|
  turnB d 1 ⟨k0_dev26 d, k0_dev26_lt d⟩ ⟨k0_dev27 d, k0_dev27_lt d⟩ <|
  turnB d 2 ⟨k0_dev28 d, k0_dev28_lt d⟩ ⟨k0_dev29 d, k0_dev29_lt d⟩ <|
  turnC d 0 <| turnC d 1 <| turnC d 2 <|
  yDone d 0 <| yDone d 1 <| yDone d 2 <|
  turnD d 0 <| turnD d 1 <| turnD d 2 <| Prog.ret ⟨⟩

end

/-- The body that the launch runs reads its device's number and is then that sequence. -/
theorem body_eq : cc0_body (F := F) (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9
      cc0_scratch10 cc0_scratch11 cc0_scratch12 cc0_scratch13
    = Prog.op .deviceId fun d => flat d := by
  chain_rfl

end Cert.Gather

end
-- ==== Proof.Contents.lean ====
/-
# What the output holds

`final X c` is what device `c`'s output holds in the end, row by row the row of the device it comes from, where `X d` is
device `d`'s argument block. The rows of a window; what a remote copy and a copy within a device leave in the window
they write; and the output as the separate windows of a device.
-/
module

public import proofs.«01_k».proof.Proof.Mesh
public import proofs.«01_k».proof.Proof.Program
public import Idealize.ShloMosaic.Lib.Pipeline.Value
public import Idealize.ShloMosaic.Lib.Pipeline.Launch
public import Idealize.ShloMosaic.Lib.Ring.Trips
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## Rows -/

/-- The elements of the output in the `n` units from unit `lo`. -/
def rows (lo n : ℕ) : Finset S8192x512.Idx := Finset.univ.filter fun i => 32 * lo ≤ (i 0).val ∧ (i 0).val < 32 * (lo + n)

theorem mem_rows {lo n : ℕ} {i : S8192x512.Idx} : i ∈ rows lo n ↔ lo ≤ (i 0).val / 32 ∧ (i 0).val / 32 < lo + n := by
  unfold rows; rw [Finset.mem_filter]; constructor
  · rintro ⟨-, h1, h2⟩; omega
  · rintro ⟨h1, h2⟩; exact ⟨Finset.mem_univ _, by omega, by omega⟩

theorem rows_sub {lo n lo' n' : ℕ} (h : lo' ≤ lo) (h' : lo + n ≤ lo' + n') : rows lo n ⊆ rows lo' n' := fun i hi => by
  rw [mem_rows] at hi ⊢; omega

theorem row_lt (i : S8192x512.Idx) : (i 0).val < 8192 := (i 0).isLt
theorem unit_lt (i : S8192x512.Idx) : (i 0).val / 32 < 256 := by have := row_lt i; omega

/-- A window whose rectangle has the rows of `lo`, `n` is those rows. -/
theorem rOut_set {off sz : Fin 2 → ℕ} (h : ∀ a, off a + sz a ≤ S8192x512.size a) {lo n : ℕ} (ho : off = ![32 * lo, 0]) (hs : sz = ![32 * n, 512]) :
    (rOut off sz h).set = rows lo n := by
  subst ho hs
  ext i
  rw [Rect.mem_set_unit, rows, Finset.mem_filter, Fin.forall_fin_two]
  have h1 : (i 1).val < 512 := (i 1).isLt
  show (32 * lo ≤ (i 0).val ∧ (i 0).val < 32 * lo + 32 * n) ∧ (0 ≤ (i 1).val ∧ (i 1).val < 0 + 512) ↔ _
  constructor
  · rintro ⟨⟨h1, h2⟩, -⟩; exact ⟨Finset.mem_univ _, h1, by omega⟩
  · rintro ⟨-, h1, h2⟩; exact ⟨⟨h1, by omega⟩, by omega, by omega⟩

theorem oWin_set {off sz : Fin 2 → ℕ} (h : ∀ a, off a + sz a ≤ S8192x512.size a) {lo n : ℕ} (ho : off = ![32 * lo, 0]) (hs : sz = ![32 * n, 512]) :
    (oWin off sz h).view.set = rows lo n :=
  (View.set_slice_whole cc0_stg1_0 (rOut off sz h)).trans (rOut_set h ho hs)

/-! ## Contents -/

abbrev Blk (F : FTy → Type) : Type := (cc0_stg0_0 : Ref sig .tc).ty.Contents (Elt F)
abbrev Out (F : FTy → Type) : Type := (cc0_stg1_0 : Ref sig .tc).ty.Contents (Elt F)

/-- Row `r` modulo 2048, column `c`, of a block. -/
def blkIx (i : S8192x512.Idx) : S2048x512.Idx := Fin.cons ⟨(i 0).val % 2048, Nat.mod_lt _ (by decide)⟩ (Fin.cons ⟨(i 1).val, (i 1).isLt⟩ finZeroElim)

/-- The final output of device `c`. -/
def final (X : Dev nD → Blk F) (c : Dev nD) : Out F := fun i => X (orig c ((i 0).val / 32)) (blkIx i)

/-- What a remote copy writes: the sender's final rows of the window are the target's. -/
theorem land (X : Dev nD → Blk F) (c : Dev nD) (g : Leg) {off sz : Fin 2 → ℕ} (h : ∀ a, off a + sz a ≤ S8192x512.size a)
    (ho : off = ![32 * slo c g, 0]) (hs : sz = ![32 * rln g.1, 512]) (fd : Out F) :
    ∀ i ∈ rows (slo c g) (rln g.1),
      (oWin off sz h).view.write (Elt F) fd ((oWin off sz h).view.read (Elt F) (final X c)) Finset.univ i = final X (tgt c g) i := by
  intro i hi
  rw [View.write_read_eq_piecewise, Finset.piecewise_eq_of_mem _ _ _ (by rw [View.setOn_univ, oWin_set h ho hs]; exact hi)]
  rw [mem_rows] at hi
  have := orig_send c g ⟨(i 0).val / 32 - slo c g, by have := rln_le g.1; omega⟩ (by dsimp only; omega)
  dsimp only at this
  rw [show slo c g + ((i 0).val / 32 - slo c g) = (i 0).val / 32 by omega] at this
  unfold final; rw [this]

/-- What a copy from the argument writes in an own window: the device's own rows. -/
theorem copied (X : Dev nD → Blk F) (c : Dev nD) (k : Fin 6) {offI offO sz : Fin 2 → ℕ} (hI : ∀ a, offI a + sz a ≤ S2048x512.size a)
    (hO : ∀ a, offO a + sz a ≤ S8192x512.size a) (hc : (⟨2, sz⟩ : Shape).ShapeCasts ⟨2, sz⟩)
    (hoI : offI = ![32 * (olo c k - 64 * cy c), 0]) (hoO : offO = ![32 * olo c k, 0]) (hs : sz = ![32 * oln k, 512]) (f : Out F) :
    ∀ i ∈ rows (olo c k) (oln k),
      ((oM : Memref sig .tc .vmem S8192x512 .bf16).access (rOut offO sz hO)).write (Elt F) f
        (shapeCast ⟨2, sz⟩ ((iM : Memref sig .tc .vmem S2048x512 .bf16).view.readAt (Elt F) (rIn offI sz hI).toLoadRect (X c)) hc) Finset.univ i
        = final X c i := by
  intro i hi
  have hi' := hi
  rw [← oWin_set hO hoO hs] at hi'
  obtain ⟨x, -, hx⟩ := Finset.mem_map.mp hi'
  have hx' : ((oM : Memref sig .tc .vmem S8192x512 .bf16).access (rOut offO sz hO)).emb x = i := hx
  rw [← hx', View.write_emb_of_mem _ _ (Finset.mem_univ x), hx']
  refine (cast_eq _ _).trans ((congrFun (shapeCast_self (s := ⟨2, sz⟩) (α := Elt F .bf16) _ hc) x).trans ?_)
  rw [mem_rows] at hi
  have hd := olo_div c k ⟨(i 0).val / 32 - olo c k, by have := oln_le k; omega⟩ (by dsimp only; omega)
  dsimp only at hd
  rw [show olo c k + ((i 0).val / 32 - olo c k) = (i 0).val / 32 by omega] at hd
  have hd' := olo_div c k ⟨0, by omega⟩ ((by decide : ∀ k : Fin 6, 0 < oln k) k)
  dsimp only at hd'
  unfold final; rw [orig_own c _ hd]
  show (X c) _ = X c _
  refine congrArg (X c) (funext fun a => Fin.ext ?_)
  have h0 : (i 0).val = offO 0 + 1 * (x 0).val := by rw [← hx']; rfl
  have h1 : (i 1).val = offO 1 + 1 * (x 1).val := by rw [← hx']; rfl
  have hr := row_lt i
  subst hoI hoO
  refine (Fin.forall_fin_two (p := fun a => ((rIn _ sz hI).idx x a).val = (blkIx i a).val)).mpr ⟨?_, ?_⟩ a
  · show 32 * (olo c k - 64 * cy c) + 1 * (x 0).val = (i 0).val % 2048
    change (i 0).val = 32 * olo c k + 1 * (x 0).val at h0
    omega
  · show 0 + 1 * (x 1).val = (i 1).val
    change (i 1).val = 0 + 1 * (x 1).val at h1
    omega

/-! ## The output as the windows of a device -/

theorem rows_disjoint (c : Dev nD) (w w' : Win) (h : w ≠ w') : Disjoint (rows (wlo c w) (wln w)) (rows (wlo c w') (wln w')) := by
  rw [Finset.disjoint_left]
  have key : ∀ (w : Win) (i : S8192x512.Idx), i ∈ rows (wlo c w) (wln w) → winOf c ((i 0).val / 32) = w := by
    intro w i hi
    rw [mem_rows] at hi
    cases w with
    | inl k =>
      dsimp only [wlo, wln, Sum.elim_inl] at hi
      have := winOf_own c k ⟨(i 0).val / 32 - olo c k, by have := oln_le k; omega⟩ (by dsimp only; omega)
      dsimp only at this
      rwa [show olo c k + ((i 0).val / 32 - olo c k) = (i 0).val / 32 by omega] at this
    | inr g =>
      dsimp only [wlo, wln, Sum.elim_inr] at hi
      have := winOf_recv c g ⟨(i 0).val / 32 - rlo c g, by have := rln_le g.1; omega⟩ (by dsimp only; omega)
      dsimp only at this
      rwa [show rlo c g + ((i 0).val / 32 - rlo c g) = (i 0).val / 32 by omega] at this
  intro i hi hi'
  exact h ((key w i hi).symm.trans (key w' i hi'))

theorem rows_cover (c : Dev nD) : (Finset.univ : Finset S8192x512.Idx) = (Finset.univ : Finset Win).biUnion fun w => rows (wlo c w) (wln w) := by
  ext i
  simp only [Finset.mem_univ, Finset.mem_biUnion, true_and, true_iff]
  exact ⟨winOf c ((i 0).val / 32), mem_rows.mpr (winOf_mem c ⟨(i 0).val / 32, unit_lt i⟩)⟩

end Cert.Gather

end
-- ==== Proof.Offsets.lean ====
/-
# The kernel's offsets, devices and semaphores

Each offset, device number and semaphore that the body computes, as the one that the mesh's arithmetic names. Each fact is
decided over the devices and the loop's index.
-/
module

public import proofs.«01_k».proof.Proof.Mesh
public import proofs.«01_k».proof.Proof.Program

@[expose] public section

noncomputable section

namespace Cert.Gather

open Cert.KernelIdeal Cert.KernelIdeal.Gen Idealize.ShloMosaic

/-! ## Semaphores -/

set_option backward.proofsInPublic true in
/-- The number of the DMA semaphore of a channel's slot, on the sending side (`false`) or the receiving (`true`). -/
def dmaNo (b : Bool) (g : Leg) : DmaSem sig :=
  ⟨if g.1.val < 2 then (if b then 8 else 2) + 2 * g.2.val + g.1.val else (if b then 17 else 14) + 6 * (g.1.val - 2) + g.2.val, by
    have h1 := g.1.isLt; have h2 := g.2.isLt
    show _ < 50
    split <;> cases b <;> simp <;> omega⟩

theorem dmaNo_inj : ∀ p q : Bool × Leg, dmaNo p.1 p.2 = dmaNo q.1 q.2 → p = q := by decide +kernel

/-- Of the copies to peer `t`: -/
theorem sem_send0 : ∀ t : Fin 3, at2 cc0_scratch0 ![t.val, (0 : Fin 2).val] (inb2 t 0) = dmaNo false (0, t) := by decide +kernel
theorem sem_send1 : ∀ t : Fin 3, at2 cc0_scratch0 ![t.val, (1 : Fin 2).val] (inb2 t 1) = dmaNo false (1, t) := by decide +kernel
theorem sem_recv0 : ∀ (d : Dev nD) (t : Fin 3), at2 cc0_scratch1 (k0_off5 d (BitVec.ofNat 32 t.val)) (k0_off5_inb d t) = dmaNo true (0, rslot d (0, t)) := by
  decide +kernel
theorem sem_recv1 : ∀ (d : Dev nD) (t : Fin 3), at2 cc0_scratch1 (k0_off7 d (BitVec.ofNat 32 t.val)) (k0_off7_inb d t) = dmaNo true (1, rslot d (1, t)) := by
  decide +kernel
/-- of the waits of the first loop: -/
theorem sem_wait0 : ∀ (d : Dev nD) (j : Fin 3), at2 cc0_scratch1 (ap k0_off13 d (k0_off13_at j)) (k0_off13_inb d j) = dmaNo true (0, ord d j) := by
  decide +kernel
theorem sem_wait1 : ∀ (d : Dev nD) (j : Fin 3), at2 cc0_scratch1 (ap k0_off17 d (k0_off17_at j)) (k0_off17_inb d j) = dmaNo true (1, ord d j) := by
  decide +kernel
/-- of the relays: -/
theorem sem_s2 : ∀ (d : Dev nD) (j : Fin 3), rsem d cc0_scratch2 j = dmaNo false (2, ord d j) := by decide +kernel
theorem sem_r2 : ∀ (d : Dev nD) (j : Fin 3), rsem d cc0_scratch3 j = dmaNo true (2, ord d j) := by decide +kernel
theorem sem_s3 : ∀ (d : Dev nD) (j : Fin 3), rsem d cc0_scratch4 j = dmaNo false (3, ord d j) := by decide +kernel
theorem sem_r3 : ∀ (d : Dev nD) (j : Fin 3), rsem d cc0_scratch5 j = dmaNo true (3, ord d j) := by decide +kernel
theorem sem_s4 : ∀ (d : Dev nD) (j : Fin 3), rsem d cc0_scratch6 j = dmaNo false (4, ord d j) := by decide +kernel
theorem sem_r4 : ∀ (d : Dev nD) (j : Fin 3), rsem d cc0_scratch7 j = dmaNo true (4, ord d j) := by decide +kernel
theorem sem_s5 : ∀ (d : Dev nD) (j : Fin 3), rsem d cc0_scratch8 j = dmaNo false (5, ord d j) := by decide +kernel
theorem sem_r5 : ∀ (d : Dev nD) (j : Fin 3), rsem d cc0_scratch9 j = dmaNo true (5, ord d j) := by decide +kernel
theorem sem_s6 : ∀ (d : Dev nD) (j : Fin 3), rsem d cc0_scratch10 j = dmaNo false (6, ord d j) := by decide +kernel
theorem sem_r6 : ∀ (d : Dev nD) (j : Fin 3), rsem d cc0_scratch11 j = dmaNo true (6, ord d j) := by decide +kernel
theorem sem_s7 : ∀ (d : Dev nD) (j : Fin 3), rsem d cc0_scratch12 j = dmaNo false (7, ord d j) := by decide +kernel
theorem sem_r7 : ∀ (d : Dev nD) (j : Fin 3), rsem d cc0_scratch13 j = dmaNo true (7, ord d j) := by decide +kernel

/-! ## Devices -/

theorem dev_sig0 : ∀ d : Dev nD, (⟨k0_dev1 d, k0_dev1_lt d⟩ : Dev nD) = sigTo d 0 := by decide +kernel
theorem dev_sig1 : ∀ d : Dev nD, (⟨k0_dev2 d, k0_dev2_lt d⟩ : Dev nD) = sigTo d 1 := by decide +kernel
theorem dev_sig2 : ∀ d : Dev nD, (⟨k0_dev3 d, k0_dev3_lt d⟩ : Dev nD) = sigTo d 2 := by decide +kernel
theorem dev_sig3 : ∀ d : Dev nD, (⟨k0_dev4 d, k0_dev4_lt d⟩ : Dev nD) = sigTo d 3 := by decide +kernel
theorem dev_sig4 : ∀ d : Dev nD, (⟨k0_dev5 d, k0_dev5_lt d⟩ : Dev nD) = sigTo d 4 := by decide +kernel

theorem dev6 : ∀ d : Dev nD, (⟨k0_dev6 d, k0_dev6_lt d⟩ : Dev nD) = peer d 0 := by decide +kernel
theorem dev7 : ∀ d : Dev nD, (⟨k0_dev7 d, k0_dev7_lt d⟩ : Dev nD) = peer d 0 := by decide +kernel
theorem dev8 : ∀ d : Dev nD, (⟨k0_dev8 d, k0_dev8_lt d⟩ : Dev nD) = peer d 1 := by decide +kernel
theorem dev9 : ∀ d : Dev nD, (⟨k0_dev9 d, k0_dev9_lt d⟩ : Dev nD) = peer d 1 := by decide +kernel
theorem dev10 : ∀ d : Dev nD, (⟨k0_dev10 d, k0_dev10_lt d⟩ : Dev nD) = peer d 2 := by decide +kernel
theorem dev11 : ∀ d : Dev nD, (⟨k0_dev11 d, k0_dev11_lt d⟩ : Dev nD) = peer d 2 := by decide +kernel
theorem dev12 : ∀ d : Dev nD, (⟨k0_dev12 d, k0_dev12_lt d⟩ : Dev nD) = partner d := by decide +kernel
theorem dev13 : ∀ d : Dev nD, (⟨k0_dev13 d, k0_dev13_lt d⟩ : Dev nD) = buddy d := by decide +kernel
theorem dev14 : ∀ d : Dev nD, (⟨k0_dev14 d, k0_dev14_lt d⟩ : Dev nD) = partner d := by decide +kernel
theorem dev15 : ∀ d : Dev nD, (⟨k0_dev15 d, k0_dev15_lt d⟩ : Dev nD) = buddy d := by decide +kernel
theorem dev16 : ∀ d : Dev nD, (⟨k0_dev16 d, k0_dev16_lt d⟩ : Dev nD) = partner d := by decide +kernel
theorem dev17 : ∀ d : Dev nD, (⟨k0_dev17 d, k0_dev17_lt d⟩ : Dev nD) = buddy d := by decide +kernel
theorem dev18 : ∀ d : Dev nD, (⟨k0_dev18 d, k0_dev18_lt d⟩ : Dev nD) = partner d := by decide +kernel
theorem dev19 : ∀ d : Dev nD, (⟨k0_dev19 d, k0_dev19_lt d⟩ : Dev nD) = buddy d := by decide +kernel
theorem dev20 : ∀ d : Dev nD, (⟨k0_dev20 d, k0_dev20_lt d⟩ : Dev nD) = partner d := by decide +kernel
theorem dev21 : ∀ d : Dev nD, (⟨k0_dev21 d, k0_dev21_lt d⟩ : Dev nD) = buddy d := by decide +kernel
theorem dev22 : ∀ d : Dev nD, (⟨k0_dev22 d, k0_dev22_lt d⟩ : Dev nD) = partner d := by decide +kernel
theorem dev23 : ∀ d : Dev nD, (⟨k0_dev23 d, k0_dev23_lt d⟩ : Dev nD) = buddy d := by decide +kernel
theorem dev24 : ∀ d : Dev nD, (⟨k0_dev24 d, k0_dev24_lt d⟩ : Dev nD) = buddy d := by decide +kernel
theorem dev25 : ∀ d : Dev nD, (⟨k0_dev25 d, k0_dev25_lt d⟩ : Dev nD) = partner d := by decide +kernel
theorem dev26 : ∀ d : Dev nD, (⟨k0_dev26 d, k0_dev26_lt d⟩ : Dev nD) = buddy d := by decide +kernel
theorem dev27 : ∀ d : Dev nD, (⟨k0_dev27 d, k0_dev27_lt d⟩ : Dev nD) = partner d := by decide +kernel
theorem dev28 : ∀ d : Dev nD, (⟨k0_dev28 d, k0_dev28_lt d⟩ : Dev nD) = buddy d := by decide +kernel
theorem dev29 : ∀ d : Dev nD, (⟨k0_dev29 d, k0_dev29_lt d⟩ : Dev nD) = partner d := by decide +kernel

/-! ## Offsets -/

/-- The copies from the argument. -/
theorem off_own0 : ∀ d : Dev nD, k0_off2 d = ![32 * olo d 0, 0] ∧ k0_off1 d = ![32 * (olo d 0 - 64 * cy d), 0] := by decide +kernel
theorem off_own1 : ∀ d : Dev nD, k0_off4 d = ![32 * olo d 1, 0] ∧ k0_off3 d = ![32 * (olo d 1 - 64 * cy d), 0] := by decide +kernel
theorem off_own2 : ∀ d : Dev nD, k0_off10 d = ![32 * olo d 2, 0] ∧ k0_off9 d = ![32 * (olo d 2 - 64 * cy d), 0] := by decide +kernel
set_option backward.proofsInPublic true in
/-- The own window that copy `r` of the last three fills. -/
def lastOwn (r : Fin 3) : Fin 6 := ⟨3 + r.val, by have := r.isLt; omega⟩
theorem off_own3 : ∀ (d : Dev nD) (r : Fin 3), k0_off12 d (k0_off12_at r).1 (k0_off12_at r).2 = ![32 * olo d (lastOwn r), 0]
    ∧ k0_off11 d (k0_off11_at r).1 (k0_off11_at r).2 = ![32 * (olo d (lastOwn r) - 64 * cy d), 0] := by decide +kernel

/-- The windows sent to the peers. -/
theorem off6 : ∀ (d : Dev nD) (t : Fin 3), k0_off6 d = ![32 * slo d (0, t), 0] := by decide +kernel
theorem off8 : ∀ (d : Dev nD) (t : Fin 3), k0_off8 d = ![32 * slo d (1, t), 0] := by decide +kernel
/-- The windows awaited and relayed. -/
theorem off16 : ∀ (d : Dev nD) (j : Fin 3), ap k0_off16 d (k0_off16_at j) = ![32 * slo d (2, ord d j), 0] := by decide +kernel
theorem off18 : ∀ (d : Dev nD) (j : Fin 3), ap k0_off18 d (k0_off18_at j) = ![32 * slo d (3, ord d j), 0] := by decide +kernel
theorem off20 : ∀ (d : Dev nD) (j : Fin 3), ap k0_off20 d (k0_off20_at j) = ![32 * slo d (7, ord d j), 0] := by decide +kernel
theorem off22 : ∀ (d : Dev nD) (j : Fin 3), ap k0_off22 d (k0_off22_at j) = ![32 * slo d (6, ord d j), 0] := by decide +kernel

end Cert.Gather

end
-- ==== Proof.Schedule.lean ====
/-
# The protocol

Each device has one barrier cell, and for each of its twenty-four copies a cell for its leaving and one for the arrival of
the copy that it receives in the same place. One round of each: the barrier's five duties are paid by the five devices that
write into this one's peers' and neighbours' outputs, each signal handing over the windows its receiver may write; a copy's
leaving hands back what it read, its arrival hands over what it wrote.
-/
module

public import proofs.«01_k».proof.Proof.Contents
public import proofs.«01_k».proof.Proof.Offsets

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A cell of a device: the barrier's, or that of a leg's leaving (`false`) or arrival (`true`). -/
abbrev CK : Type := Option (Bool × Leg)

abbrev csem : CK → SemLoc sig
  | none => .reg barS
  | some p => .dma (dmaNo p.1 p.2)

theorem csem_injective : Function.Injective csem := by
  rintro (_ | p) (_ | q) h
  · rfl
  · cases h
  · cases h
  · exact congrArg some (dmaNo_inj p q (SemLoc.dma.inj h))

abbrev kcell (ck : Dev nD × CK) : GSem nD τ sig := ((ck.1 : Thread nD τ), csem ck.2)

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

open Classical in
/-- The cell of a semaphore, if it is one. -/
def ckOf (s : SemLoc sig) : Option CK := if h : ∃ k, csem k = s then some h.choose else none

theorem ckOf_csem (k : CK) : ckOf (csem k) = some k := by
  unfold ckOf
  have h : ∃ k', csem k' = csem k := ⟨k, rfl⟩
  rw [dif_pos h, csem_injective h.choose_spec]

theorem ckOf_bar : ckOf (.reg barS) = some none := ckOf_csem none
theorem ckOf_dma (b : Bool) (g : Leg) : ckOf (.dma (dmaNo b g)) = some (some (b, g)) := ckOf_csem (some (b, g))

/-! ## What is held of the output -/

/-- The elements `S` of device `c`'s output. -/
def pts (c : Dev nD) (S : Finset S8192x512.Idx) (q : PosShare TreeShare) (f : Out F) : sProp 𝕄 :=
  ((c : Thread nD τ).loc cc0_stg1_0) ↦[S]{q} f

/-- Device `c`'s staged argument. -/
def xPts (X : Dev nD → Blk F) (c : Dev nD) : sProp 𝕄 := ((c : Thread nD τ).loc cc0_stg0_0) ↦{fullShare} X c

instance pts_storable (c : Dev nD) (S) (q) (f : Out F) : BI.Storable (upEmb : UEmb _ 𝕄) (pts c S q f) := by unfold pts; infer_instance

/-- The window that device `c` receives in, before its contents arrived. -/
def mine (c : Dev nD) (g : Leg) : sProp 𝕄 := iprop(∃ f : Out F, pts c (rows (rlo c g) (rln g.1)) fullShare f)
/-- The window that copy `g` of device `c` writes, before it did. -/
def free (c : Dev nD) (g : Leg) : sProp 𝕄 := iprop(∃ f : Out F, pts (tgt c g) (rows (slo c g) (rln g.1)) fullShare f)

theorem free_eq (c : Dev nD) (g : Leg) : (free c g : sProp 𝕄) = mine (legEquiv (c, g)).1 (legEquiv (c, g)).2 := rfl

instance free_storable (c : Dev nD) (g : Leg) : BI.Storable (upEmb : UEmb _ 𝕄) (free (F := F) c g) := by unfold free; infer_instance

/-- The share of the rows it reads that a copy takes with it: three copies read an own window at once, two a window relayed to both
    neighbours, one alone the rest. -/
def lshare (g : Leg) : PosShare TreeShare :=
  if g.1.val < 2 then Ring.shares3 fullShare g.2 else if g.1.val < 4 then fullShare.left else if g.1.val < 6 then fullShare.right else fullShare

/-! ## The schedule -/

/-- The signal, of the five that a device awaits, that hands over the window of a copy. -/
def legDuty (g : Leg) : Fin 5 := if g.1.val < 2 then g.2.castLE (by decide) else if g.1 = 2 ∨ g.1 = 3 ∨ g.1 = 6 then 3 else 4

/-- What duty `d` of device `c`'s barrier hands it: the windows that it may write at the signalling device. -/
def barPay (c : Dev nD) (d : Fin 5) : sProp 𝕄 := bigSep (Finset.univ.filter fun g => legDuty g = d) fun g => free (F := F) c g
/-- What a copy that arrived, or left, hands over. -/
def dmaPay (X : Dev nD → Blk F) (c : Dev nD) (b : Bool) (g : Leg) : sProp 𝕄 :=
  if b then pts c (rows (rlo c g) (rln g.1)) fullShare (final X c) else pts c (rows (slo c g) (rln g.1)) (lshare g) (final X c)

instance barPay_storable (c : Dev nD) (d : Fin 5) : BI.Storable (upEmb : UEmb _ 𝕄) (barPay (F := F) c d) := by unfold barPay; infer_instance
instance dmaPay_storable (X : Dev nD → Blk F) (c : Dev nD) (b : Bool) (g : Leg) : BI.Storable (upEmb : UEmb _ 𝕄) (dmaPay X c b g) := by
  unfold dmaPay; split <;> infer_instance

set_option backward.proofsInPublic true in
/-- The credit of a channel's copies. -/
def amt (ch : Ch) : ℕ := (oWin ![0, 0] ![32 * rln ch, 512] (by revert ch; decide)).view.dmaCredit

theorem amt_pos (ch : Ch) : 0 < amt ch := View.dmaCredit_pos _ (by revert ch; decide)

theorem amt_eq {off sz : Fin 2 → ℕ} (h : ∀ a, off a + sz a ≤ S8192x512.size a) (ch : Ch) (hs : sz = ![32 * rln ch, 512]) :
    (oWin off sz h).view.dmaCredit = amt ch := by subst hs; rfl

/-- The units of a cell's duty. -/
def camt : CK → ℕ
  | none => 1
  | some p => amt p.2.1

theorem camt_pos (k : CK) : 0 < camt k := by
  cases k with
  | none => exact Nat.one_pos
  | some p => exact amt_pos _

/-- The schedule of a cell, by what the cell is. -/
def kduties : CK → Finset (Fin 5)
  | none => Finset.univ
  | some _ => {0}
def kpay (X : Dev nD → Blk F) (c : Dev nD) : CK → Fin 5 → sProp 𝕄
  | none, d => barPay c d
  | some p, _ => dmaPay X c p.1 p.2

instance kpay_storable (X : Dev nD → Blk F) (c : Dev nD) (k : CK) (d : Fin 5) : BI.Storable (upEmb : UEmb _ 𝕄) (kpay X c k d) := by
  cases k <;> unfold kpay <;> infer_instance

def Rd (X : Dev nD → Blk F) : Rounds.Schedule (GSem nD τ sig) (Fin 5) 𝕄 where
  duties g r := if r = 0 ∧ g.1.2 = .tc then (ckOf g.2).elim ∅ kduties else ∅
  amount g _ _ := (ckOf g.2).elim 1 camt
  payload g _ d := (ckOf g.2).elim iprop(emp) fun k => kpay X g.1.1 k d
  amount_pos g _ _ _ := by
    cases ckOf g.2 with
    | none => exact Nat.one_pos
    | some k => exact camt_pos k

instance Rd_payload_storable (X : Dev nD → Blk F) (g : GSem nD τ sig) (r : ℕ) (d : Fin 5) :
    BI.Storable (upEmb : UEmb _ 𝕄) ((Rd X).payload g r d) := by
  show BI.Storable upEmb ((ckOf g.2).elim iprop(emp) fun k => kpay X g.1.1 k d)
  cases ckOf g.2 with
  | none => show BI.Storable upEmb iprop(emp); infer_instance
  | some k => exact kpay_storable X g.1.1 k d

/-- All legs, gathered by a number that each has. -/
theorem bigSep_by (f : Leg → Fin 5) (Φ : Leg → sProp 𝕄) :
    bigSep Finset.univ Φ = bigSep Finset.univ fun d => bigSep (Finset.univ.filter fun g => f g = d) Φ := by
  have one : ∀ g, (bigSep Finset.univ fun d : Fin 5 => if f g = d then Φ g else iprop(emp)) = Φ g := fun g => by
    refine (bigSep_filter Finset.univ (fun d => f g = d) fun _ => Φ g).symm.trans ?_
    rw [Finset.filter_eq, if_pos (Finset.mem_univ _), bigSep_singleton]
  refine Eq.symm ((bigSep_congr fun d _ => bigSep_filter Finset.univ (fun g => f g = d) Φ).trans ?_)
  exact (bigSep_univ_comm fun (d : Fin 5) (g : Leg) => if f g = d then Φ g else iprop(emp)).trans (bigSep_congr fun g _ => one g)

section
variable (X : Dev nD → Blk F) (c : Dev nD) (k : CK)

theorem Rd_duties : (Rd X).duties (kcell (c, k)) 0 = kduties k := by
  dsimp only [Rd]
  rw [ckOf_csem]; exact if_pos ⟨rfl, rfl⟩
theorem Rd_later (g : GSem nD τ sig) : ∀ r, 1 ≤ r → (Rd X).duties g r = ∅ := fun r hr => if_neg fun h => by omega
theorem Rd_amount (d : Fin 5) : (Rd X).amount (kcell (c, k)) 0 d = camt k := by
  show (ckOf (csem k)).elim 1 camt = _
  rw [ckOf_csem]; rfl
theorem Rd_payload (d : Fin 5) : (Rd X).payload (kcell (c, k)) 0 d = kpay X c k d := by
  show ((ckOf (csem k)).elim iprop(emp) fun k => kpay X c k d) = _
  rw [ckOf_csem]; rfl

theorem Rd_expect_bar : (Rd X).expect (kcell (c, none)) 0 = 5 := by
  unfold Schedule.expect Schedule.amountOf
  rw [Rd_duties, Finset.sum_congr rfl fun d _ => Rd_amount X c none d]
  rfl
theorem Rd_expect_dma (p : Bool × Leg) : (Rd X).expect (kcell (c, some p)) 0 = amt p.2.1 := by
  unfold Schedule.expect Schedule.amountOf
  rw [Rd_duties, show kduties (some p) = {0} from rfl, Finset.sum_singleton, Rd_amount]
  rfl

/-- The windows that the five signals together hand over are those of all copies. -/
theorem Rd_rest_bar : bigSep ((Rd X).duties (kcell (c, none)) 0 \ ∅) (fun d => (Rd X).payload (kcell (c, none)) 0 d)
    = bigSep Finset.univ fun g => free (F := F) c g := by
  rw [Finset.sdiff_empty, Rd_duties, bigSep_by legDuty]
  exact bigSep_congr fun d _ => Rd_payload X c none d
theorem Rd_rest_dma (p : Bool × Leg) : bigSep ((Rd X).duties (kcell (c, some p)) 0 \ ∅) (fun d => (Rd X).payload (kcell (c, some p)) 0 d)
    = dmaPay X c p.1 p.2 := by
  rw [Finset.sdiff_empty, Rd_duties, show kduties (some p) = {0} from rfl, bigSep_singleton, Rd_payload]
  rfl

end

/-! ## What is owed, and the levels -/

/-- The arrival that copy `g` of device `c` owes, and the signal `k`. -/
def due (c : Dev nD) (g : Leg) : Dev nD × CK := (tgt c g, some (true, (g.1, rslot c g)))
def dueSig (c : Dev nD) (k : Fin 5) : Dev nD × CK := (sigTo c k, none)

def tally (p : Dev nD × CK) : CellTallies nD τ sig Unit := tallyAt (kcell p) () (camt p.2)
def sumL (l : List (Dev nD × CK)) : CellTallies nD τ sig Unit := (l.map tally).sum

theorem sumL_nil : sumL [] = 0 := rfl
theorem sumL_cons (p : Dev nD × CK) (l : List (Dev nD × CK)) : sumL (p :: l) = sumL l + tally p := by
  unfold sumL; rw [List.map_cons, List.sum_cons, add_comm]

theorem sumL_pos {l : List (Dev nD × CK)} {g : GSem nD τ sig} {u : Unit} (h : 0 < sumL l g u) : ∃ p ∈ l, g = kcell p := by
  induction l with
  | nil => rw [sumL_nil] at h; exact absurd h (Nat.lt_irrefl 0)
  | cons p l ih =>
    rw [sumL_cons, Pi.add_apply, Finsupp.add_apply] at h
    by_cases hp : g = kcell p
    · exact ⟨p, List.mem_cons_self, hp⟩
    · rw [tally, tallyAt_apply, if_neg fun h' => hp h'.1, Nat.add_zero] at h
      obtain ⟨q, hq, e⟩ := ih h
      exact ⟨q, List.mem_cons_of_mem _ hq, e⟩

/-- Levels: a wait is for a cell below all that the device then owes. -/
def lvCh (ch : Ch) : ℕ := (![2, 2, 3, 3, 3, 3, 4, 4] : Fin 8 → ℕ) ch
def lvK : CK → ℕ
  | none => 1
  | some (true, g) => lvCh g.1
  | some (false, _) => 0

def L (g : GSem nD τ sig) : Finset Unit := if g.1.2 = .tc then {()} else ∅
def lv (g : GSem nD τ sig) (_ : Unit) : ℕ := (ckOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × CK) (u : Unit) : lv (kcell p) u = lvK p.2 := by
  show (ckOf (csem p.2)).elim 0 lvK = _
  rw [ckOf_csem]; rfl

/-- A device may wait at a semaphore whose level is below that of everything it owes. -/
theorem mayWait_sumL (c : Dev nD) (sm : SemLoc sig) (n : ℕ) (hn : lv ((c : Thread nD τ), sm) () ≤ n) (l : List (Dev nD × CK))
    (hl : ∀ p ∈ l, n < lvK p.2) : (levAts L lv : sProp 𝕄) ⊢ MayWait (c : Thread nD τ) sm () (sumL l) :=
  MayOwe.of_cut (L := L) (lev := lv) n (fun p hp => by rw [Finset.mem_singleton.mp hp, L_tc]; exact Finset.mem_singleton_self _)
    (fun g u hg => by obtain ⟨p, -, rfl⟩ := sumL_pos hg; rw [L_tc]; exact Finset.mem_singleton_self _)
    (fun p hp => by rw [Finset.mem_singleton.mp hp]; exact hn)
    (fun g u hg => by obtain ⟨p, hp, rfl⟩ := sumL_pos hg; rw [lv_kcell]; exact hl p hp)

/-- The order in which device `c` sends its copies. -/
def sendOrder (c : Dev nD) : List Leg :=
  [(0, 0), (1, 0), (0, 1), (1, 1), (0, 2), (1, 2),
   (2, ord c 0), (4, ord c 0), (3, ord c 0), (5, ord c 0), (2, ord c 1), (4, ord c 1), (3, ord c 1), (5, ord c 1),
   (2, ord c 2), (4, ord c 2), (3, ord c 2), (5, ord c 2),
   (7, ord c 0), (6, ord c 0), (7, ord c 1), (6, ord c 1), (7, ord c 2), (6, ord c 2)]
/-- The order in which it awaits what it receives. -/
def recvOrder (c : Dev nD) : List Leg :=
  [(0, ord c 0), (1, ord c 0), (0, ord c 1), (1, ord c 1), (0, ord c 2), (1, ord c 2),
   (3, ord c 0), (5, ord c 0), (3, ord c 1), (5, ord c 1), (3, ord c 2), (5, ord c 2),
   (2, ord c 0), (4, ord c 0), (6, ord c 0), (7, ord c 0), (2, ord c 1), (4, ord c 1), (6, ord c 1), (7, ord c 1),
   (2, ord c 2), (4, ord c 2), (6, ord c 2), (7, ord c 2)]

theorem sendOrder_nodup : ∀ c : Dev nD, (sendOrder c).Nodup := by decide +kernel
theorem sendOrder_mem : ∀ (c : Dev nD) (g : Leg), g ∈ sendOrder c := by decide +kernel
theorem recvOrder_nodup : ∀ c : Dev nD, (recvOrder c).Nodup := by decide +kernel
theorem recvOrder_mem : ∀ (c : Dev nD) (g : Leg), g ∈ recvOrder c := by decide +kernel

/-- All that device `c` owes at the start, in the order of its payments. -/
def dues (c : Dev nD) : List (Dev nD × CK) := [dueSig c 0, dueSig c 1, dueSig c 2, dueSig c 3, dueSig c 4] ++ (sendOrder c).map (due c)

/-- Every copy of the list is of a channel above level `n`. -/
def above (n : ℕ) (gs : List Leg) : Bool := gs.all fun g => decide (n < lvCh g.1)

theorem above_due {n : ℕ} {gs : List Leg} (h : above n gs = true) (c : Dev nD) : ∀ p ∈ gs.map (due c), n < lvK p.2 := by
  intro p hp
  obtain ⟨g, hg, rfl⟩ := List.mem_map.mp hp
  exact of_decide_eq_true (List.all_eq_true.mp h g hg)

theorem dues_pos : ∀ (c : Dev nD), ∀ p ∈ dues c, 0 < lvK p.2 := by
  intro c p hp
  rcases List.mem_append.mp hp with h | h
  · fin_cases h <;> exact Nat.one_pos
  · exact above_due (n := 0) (gs := sendOrder c) rfl c p h

/-! ## The windows handed over by each signal -/

/-- The signal with which device `c` hands over the window that it receives in. -/
def recvSig (c : Dev nD) (g : Leg) : Fin 5 := sigDuty (legDuty (fromLeg c g))

theorem recvSig_to : ∀ (c : Dev nD) (g : Leg), from' c g = sigTo c (recvSig c g) := by decide +kernel

/-- The windows of signal `k` of device `c` are what the duty that it pays hands over. -/
theorem barPay_sig (c : Dev nD) (k : Fin 5) :
    (bigSep (Finset.univ.filter fun g => recvSig c g = k) fun g => mine (F := F) c g) = barPay (sigTo c k) (sigDuty k) := by
  have hinv : ∀ g, legEquiv.symm (c, g) = (from' c g, fromLeg c g) := fun g => rfl
  have hinj : Set.InjOn (fromLeg c) (Finset.univ.filter fun g => recvSig c g = k) := by
    intro a ha b hb e
    have ha' : recvSig c a = k := (Finset.mem_filter.mp ha).2
    have hb' : recvSig c b = k := (Finset.mem_filter.mp hb).2
    have : legEquiv.symm (c, a) = legEquiv.symm (c, b) := by
      rw [hinv, hinv, recvSig_to c a, recvSig_to c b, ha', hb', e]
    exact (Prod.mk.inj (legEquiv.symm.injective this)).2
  have himg : (Finset.univ.filter fun g => legDuty g = sigDuty k) = (Finset.univ.filter fun g => recvSig c g = k).image (fromLeg c) := by
    revert c k; decide +kernel
  unfold barPay
  rw [himg, bigSep_image_of_injOn hinj]
  refine bigSep_congr fun g hg => ?_
  have hg' : recvSig c g = k := (Finset.mem_filter.mp hg).2
  rw [free_eq]
  have : legEquiv (sigTo c k, fromLeg c g) = (c, g) := by
    rw [← hg', ← recvSig_to, ← hinv, Equiv.apply_symm_apply]
  rw [this]

end Cert.Gather

end
-- ==== Proof.Rules.lean ====
/-
# One rule for each operation of the body

What a device holds for a copy to send, for a wait, for a signal; and the run of each of the body's operations from it.
-/
module

public import proofs.«01_k».proof.Proof.Schedule
public import proofs.«01_k».proof.Proof.Gen.KernelIdeal.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s run of `p`, to `Q`. -/
abbrev runs (c : Dev nD) (p : Body F) (Q : PUnit → sProp 𝕄) : sProp 𝕄 :=
  wp frame (wpE (defs₀ (F := F)) 𝒱₀ (c : Thread nD τ) none) Set.univ p Q

variable (X : Dev nD → Blk F) (K : Dev nD × CK → ℕ)

/-- The invariants of all cells of all devices, and that each is in its round: kept by everybody. -/
def records : sProp 𝕄 :=
  iprop((bigSep Finset.univ fun ck : Dev nD × CK => cellInv ER (Rd X) (K ck) (kcell ck))
    ∗ bigSep Finset.univ fun ck : Dev nD × CK => reached ER (kcell ck) 0)

instance records_persistent : BI.Persistent (records X K) := by unfold records; infer_instance

omit [FloatOps F] in
theorem records_inv (ck : Dev nD × CK) : records X K ⊢ cellInv ER (Rd X) (K ck) (kcell ck) :=
  Laws.sep_elim_left.trans (show (bigSep Finset.univ fun ck : Dev nD × CK => (cellInv ER (Rd X) (K ck) (kcell ck) : sProp 𝕄)) ⊢ _ from bigSep_elim (Finset.mem_univ ck))
omit [FloatOps F] in
theorem records_reached (ck : Dev nD × CK) : records X K ⊢ reached ER (kcell ck) 0 :=
  Laws.sep_elim_right.trans (show (bigSep Finset.univ fun ck : Dev nD × CK => (reached ER (kcell ck) 0 : sProp 𝕄)) ⊢ _ from bigSep_elim (Finset.mem_univ ck))

omit [FloatOps F] in
theorem dmaPay_send (c : Dev nD) (g : Leg) : kpay X c (some (false, g)) 0 = pts c (rows (slo c g) (rln g.1)) (lshare g) (final X c) := by
  show dmaPay X c false g = _; unfold dmaPay; exact if_neg Bool.false_ne_true
omit [FloatOps F] in
theorem dmaPay_recv (c : Dev nD) (g : Leg) : kpay X c (some (true, g)) 0 = pts c (rows (rlo c g) (rln g.1)) fullShare (final X c) := by
  show dmaPay X c true g = _; unfold dmaPay; exact if_pos rfl

/-- What device `c` owes: the payments of a list, at whatever it waited for. -/
def ow (c : Dev nD) (l : List (Dev nD × CK)) : sProp 𝕄 := iprop(∃ W, owes (c : Thread nD τ) (sumL l) W)

/-- What a device needs to wait for a leg's leaving or arrival. -/
def Wt (c : Dev nD) (b : Bool) (g : Leg) : sProp 𝕄 :=
  iprop(cred (tallyAt (kcell (c, some (b, g))) () (amt g.1)) ∗ atPos ER (kcell (c, some (b, g))) 0 ∅ 0)

/-- What it needs to send copy `g`, beside the rows. -/
def Snd (c : Dev nD) (g : Leg) : sProp 𝕄 :=
  iprop(free c g ∗ dutyTok ER (kcell (c, some (false, g))) 0 (0 : Fin 5) ∗ dutyTok ER (kcell (due c g)) 0 (0 : Fin 5)
    ∗ atPos ER (kcell (c, some (false, g))) 0 ∅ 0)

/-- A cell that is through. -/
def Zero (c : Dev nD) (k : CK) : sProp 𝕄 := semVal (kcell (c, k)) 0

section
variable (c : Dev nD)

/-- The signal `k`: its windows go to the device signalled. -/
theorem runs_sig (k : Fin 5) {n : Dev nD} (hn : n = sigTo c k) (l : List (Dev nD × CK)) {p : Body F} {Q : PUnit → sProp 𝕄} :
    iprop(records X K ∗ ow c (dueSig c k :: l) ∗ dutyTok ER (kcell (dueSig c k)) 0 (sigDuty k)
        ∗ bigSep (Finset.univ.filter fun g => recvSig c g = k) fun g => mine (F := F) c g)
      ⊢ iprop((ow c l -∗ runs c p Q) -∗ runs c (sigOp n p) Q) := by
  subst hn
  unfold ow sigOp
  rw [barPay_sig]
  iintro ⟨#HR, ⟨%W, HO⟩, Ht, Hp⟩ Hk
  rw [sumL_cons]
  iapply (Rounds.wp_signal 𝒱₀ ER (Rd X) (c : Thread nD τ) none (dst := (sigTo c k : Thread nD τ)) (κ := K (dueSig c k))
      (d := sigDuty k) (by rw [show (((sigTo c k : Thread nD τ), SemLoc.reg barS) : GSem nD τ sig) = kcell (sigTo c k, none) from rfl, Rd_duties]; exact Finset.mem_univ _)
      ((Rd_amount X (sigTo c k) none (sigDuty k)).trans (by decide)) () (sumL l) rfl)
    $$ [HO Ht Hp]
  · isplitr; · iapply (records_inv X K (dueSig c k)); iexact HR
    isplitl [HO]; · iexact HO
    isplitl [Ht]; · iexact Ht
    isplitl [Hp]
    · iapply (Entails.of_eq ((Rd_payload X (sigTo c k) none (sigDuty k)).trans (show kpay X (sigTo c k) none (sigDuty k) = barPay (sigTo c k) (sigDuty k) from rfl)).symm); iexact Hp
    · iapply (records_reached X K (dueSig c k)); iexact HR
  iintro HO
  iapply Hk
  iexists W; iexact HO

/-- The barrier's wait: all windows that the device may write. -/
theorem runs_bar (gs : List Leg) (hgs : above 1 gs = true) {p : Body F} {Q : PUnit → sProp 𝕄} :
    iprop(records X K ∗ levAts L lv ∗ ow c (gs.map (due c)) ∗ cred (tallyAt (kcell (c, none)) () 5) ∗ atPos ER (kcell (c, none)) 0 ∅ 0)
      ⊢ iprop(((ow c (gs.map (due c)) ∗ Zero c none ∗ bigSep Finset.univ fun g => free (F := F) c g) -∗ runs c p Q)
          -∗ runs c (Prog.op (.semWait barS (5#32 : BitVec 32).toInt) fun _ => p) Q) := by
  unfold ow
  iintro ⟨#HR, #Hlev, ⟨%W, HO⟩, Hc, Ha⟩ Hk
  iapply (Rounds.wp_wait_rest_token 𝒱₀ ER (Rd X) (c : Thread nD τ) none (κ := K (c, none))
      (wpE_semWait_eq 𝒱₀ (c : Thread nD τ) none Set.univ) (Set.mem_univ _) () (O := sumL (gs.map (due c))) (W := W) (R := 0) (m := 0) (T := ∅)
      (by rw [show (((c : Thread nD τ), SemLoc.reg barS) : GSem nD τ sig) = kcell (c, none) from rfl, Rd_expect_bar]; decide)) $$ [Hc HO Ha]
  · isplitr; · iapply (records_inv X K (c, none)); iexact HR
    isplitl [Hc]; · iexact Hc
    isplitl [HO]; · iexact HO
    isplitr
    · iapply (mayWait_sumL (F := F) c (.reg barS) 1 (le_of_eq (lv_kcell (c, none) ())) _ (above_due hgs c)); iexact Hlev
    iexact Ha
  iintro ⟨HO, Ha, -, Hp⟩
  imod (Rounds.cell_close ER (Rd X) (Set.mem_univ (K (c, none))) (fun h => h) (R := 0 + 1) (Rd_later X (kcell (c, none)))) $$ [Ha] with Hz
  · isplitr; · iapply (records_inv X K (c, none)); iexact HR
    iexact Ha
  iapply Hk
  isplitl [HO]; · iexists _; iexact HO
  isplitl [Hz]; · unfold Zero; iexact Hz
  iapply (Entails.of_eq (Rd_rest_bar X c)); iexact Hp

/-- A wait for a leg: what it hands over, and its cell is through. -/
theorem runs_wait (b : Bool) (g : Leg) (gs : List Leg) (hgs : above (lvK (some (b, g))) gs = true)
    {off sz : Fin 2 → ℕ} {h : ∀ a, off a + sz a ≤ S8192x512.size a} {hw : (rOut off sz h).WholeWords (EltTy.packing .bf16)} {s : DmaSem sig}
    (hs : s = dmaNo b g) (hz : sz = ![32 * rln g.1, 512]) {p : Body F} {Q : PUnit → sProp 𝕄} :
    iprop(records X K ∗ levAts L lv ∗ ow c (gs.map (due c)) ∗ Wt c b g)
      ⊢ iprop(((ow c (gs.map (due c)) ∗ Zero c (some (b, g)) ∗ dmaPay X c b g) -∗ runs c p Q)
          -∗ runs c (waitOp off sz h hw s p) Q) := by
  subst hs
  unfold ow Wt waitOp
  iintro ⟨#HR, #Hlev, ⟨%W, HO⟩, Hc, Ha⟩ Hk
  rw [← amt_eq h g.1 hz]
  iapply (Rounds.wp_wait_rest_token 𝒱₀ ER (Rd X) (c : Thread nD τ) none (κ := K (c, some (b, g)))
      (wpE_waitDma2_eq 𝒱₀ (c : Thread nD τ) none Set.univ) (Set.mem_univ _) () (O := sumL (gs.map (due c))) (W := W) (R := 0) (m := 0) (T := ∅)
      (by rw [show (((c : Thread nD τ), SemLoc.dma (dmaNo b g)) : GSem nD τ sig) = kcell (c, some (b, g)) from rfl, Rd_expect_dma, Nat.zero_add]
          exact amt_eq h g.1 hz)) $$ [Hc HO Ha]
  · isplitr; · iapply (records_inv X K (c, some (b, g))); iexact HR
    isplitl [Hc]; · iexact Hc
    isplitl [HO]; · iexact HO
    isplitr
    · iapply (mayWait_sumL (F := F) c (.dma (dmaNo b g)) (lvK (some (b, g))) (le_of_eq (lv_kcell (c, some (b, g)) ())) _ (above_due hgs c)); iexact Hlev
    iexact Ha
  iintro ⟨HO, Ha, -, Hp⟩
  imod (Rounds.cell_close ER (Rd X) (Set.mem_univ (K (c, some (b, g)))) (fun h => h) (R := 0 + 1) (Rd_later X (kcell (c, some (b, g))))) $$ [Ha] with Hz
  · isplitr; · iapply (records_inv X K (c, some (b, g))); iexact HR
    iexact Ha
  iapply Hk
  isplitl [HO]; · iexists _; iexact HO
  isplitl [Hz]; · unfold Zero; iexact Hz
  iapply (Entails.of_eq (Rd_rest_dma X c (b, g))); iexact Hp

/-- A remote copy `g`: its rows go with it, and it can be awaited. -/
theorem runs_send (g : Leg) (l : List (Dev nD × CK))
    {off sz : Fin 2 → ℕ} {h : ∀ a, off a + sz a ≤ S8192x512.size a} {hw : (rOut off sz h).WholeWords (EltTy.packing .bf16)} {n : Dev nD} {s₁ s₂ : DmaSem sig}
    (ho : off = ![32 * slo c g, 0]) (hz : sz = ![32 * rln g.1, 512]) (hn : n = tgt c g)
    (h₁ : s₁ = dmaNo false g) (h₂ : s₂ = dmaNo true (g.1, rslot c g)) {p : Body F} {Q : PUnit → sProp 𝕄} :
    iprop(records X K ∗ ow c (due c g :: l) ∗ Snd c g ∗ dmaPay X c false g)
      ⊢ iprop(((ow c l ∗ Wt c false g) -∗ runs c p Q) -∗ runs c (sendOp off sz h hw n s₁ s₂ p) Q) := by
  subst hn h₁ h₂
  rw [show dmaPay X c false g = _ from dmaPay_send X c g]
  unfold ow Wt Snd free sendOp
  iintro ⟨#HR, ⟨%W, HO⟩, ⟨⟨%fd, Hd⟩, Ht₁, Ht₂, Ha⟩, Hs⟩ Hk
  rw [sumL_cons]
  unfold pts
  have hset := oWin_set h ho hz
  rw [← hset]
  iapply (Rounds.wp_send_pointsTo 𝒱₀ ER (Rd X) (c : Thread nD τ) none (c' := (tgt c g : Thread nD τ)) (κ₁ := K (c, some (false, g))) (κ₂ := K (due c g))
      (r₁ := 0) (r₂ := 0) (d₁ := (0 : Fin 5)) (d₂ := (0 : Fin 5)) (fd := fd) (q := lshare g) (fs := final X c)
      (src := oWin off sz h) (dst := oWin off sz h) (sS := .dma (dmaNo false g)) (sem := .dma (dmaNo true (g.1, rslot c g)))
      (by rw [show (((c : Thread nD τ), SemLoc.dma (dmaNo false g)) : GSem nD τ sig) = kcell (c, some (false, g)) from rfl, Rd_duties]; exact Finset.mem_singleton_self _)
      (by rw [show (((tgt c g : Thread nD τ), SemLoc.dma (dmaNo true (g.1, rslot c g))) : GSem nD τ sig) = kcell (due c g) from rfl, due, Rd_duties]; exact Finset.mem_singleton_self _)
      () () (amt g.1) (amt_eq h g.1 hz) (Rd_amount X c (some (false, g)) 0) (Rd_amount X (tgt c g) (some (true, (g.1, rslot c g))) 0)
      (sumL l) rfl (W := W)
      (by
        refine BIBase.Entails.trans (Entails.of_eq ?_) (Entails.of_eq ((Rd_payload X c (some (false, g)) 0).trans (dmaPay_send X c g)).symm)
        unfold pts; rw [hset])
      (by
        refine BIBase.Entails.trans (Entails.of_eq ?_) (Entails.of_eq ((Rd_payload X (tgt c g) (some (true, (g.1, rslot c g))) 0).trans
          (dmaPay_recv X (tgt c g) (g.1, rslot c g))).symm)
        unfold pts; rw [hset]
        exact pointsTo_congr (land X c g h ho hz fd))) $$ [HO Ht₁ Ht₂ Hs Hd]
  · isplitr; · iapply (records_inv X K (c, some (false, g))); iexact HR
    isplitr; · iapply (records_inv X K (due c g)); iexact HR
    isplitl [Hs]; · iexact Hs
    isplitl [Hd]; · iexact Hd
    isplitl [HO]; · iexact HO
    isplitl [Ht₁]; · iexact Ht₁
    isplitr; · iapply (records_reached X K (c, some (false, g))); iexact HR
    isplitl [Ht₂]; · iexact Ht₂
    iapply (records_reached X K (due c g)); iexact HR
  iintro ⟨Hc, HO⟩
  iapply Hk
  isplitl [HO]; · iexists W; iexact HO
  isplitl [Hc]; · iexact Hc
  iexact Ha

/-- A copy from the argument into an own window. -/
theorem runs_copy (k : Fin 6) {offI offO sz : Fin 2 → ℕ} {hI : ∀ a, offI a + sz a ≤ S2048x512.size a} {hO : ∀ a, offO a + sz a ≤ S8192x512.size a}
    {hn : 0 < (⟨2, sz⟩ : Shape).numel} {hc : (⟨2, sz⟩ : Shape).ShapeCasts ⟨2, sz⟩} {hp : (rOut offO sz hO).PackedRows (EltTy.packing .bf16)}
    (ho : offO = ![32 * olo c k, 0] ∧ offI = ![32 * (olo c k - 64 * cy c), 0]) (hz : sz = ![32 * oln k, 512]) (f : Out F)
    {p : Body F} {Q : PUnit → sProp 𝕄} :
    iprop(xPts X c ∗ pts c (rows (olo c k) (oln k)) fullShare f)
      ⊢ iprop(((xPts X c ∗ pts c (rows (olo c k) (oln k)) fullShare (final X c)) -∗ runs c p Q)
          -∗ runs c (copyOp offI offO sz hI hO hn hc hp p) Q) := by
  unfold copyOp xPts pts
  have hset := rOut_set hO ho.1 hz
  iintro ⟨Hx, Ho⟩ Hk
  have hacc : ((oM : Memref sig .tc .vmem S8192x512 .bf16).access (rOut offO sz hO)).set = rows (olo c k) (oln k) := oWin_set hO ho.1 hz
  iapply (wp_load 𝒱₀ (c : Thread nD τ) none Set.univ (m := iM) (Finset.subset_univ _)) $$ Hx; iintro Hx
  iapply (wp_load_rect 𝒱₀ (c : Thread nD τ) none Set.univ (m := oM) (r := rOut offO sz hO) (Finset.subset_of_eq hacc)) $$ Ho; iintro Ho
  iapply (wp_store 𝒱₀ (c : Thread nD τ) none Set.univ (m := oM) (r := rOut offO sz hO) (Mk := Finset.univ)
    (by rw [View.setOn_univ]; exact Finset.subset_of_eq hacc)) $$ Ho; iintro Ho
  iapply Hk
  isplitl [Hx]; · iexact Hx
  iapply (Entails.of_eq (pointsTo_congr (copied X c k hI hO hc ho.2 ho.1 hz f))); iexact Ho

end

end Cert.Gather

end
-- ==== Proof.Phases.lean ====
/-
# The phases of the body

How the rows of a window are dealt to the copies that read it and joined again; and the run of each of the body's phases:
the copies to the peers, one turn of each of the three loops, and the waits for what was sent.
-/
module

public import proofs.«01_k».proof.Proof.Rules

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## Windows dealt and joined -/

section
variable (c : Dev nD) (s : Fin 3)

omit [FloatOps F] in
theorem gone_eq (g : Leg) : dmaPay X c false g = pts c (rows (slo c g) (rln g.1)) (lshare g) (final X c) := dmaPay_send X c g
omit [FloatOps F] in
theorem came_eq (g : Leg) : dmaPay X c true g = pts c (rows (rlo c g) (rln g.1)) fullShare (final X c) := dmaPay_recv X c g

theorem lshare_y (ch : Ch) (t : Fin 3) (h : ch.val < 2) : lshare (ch, t) = Ring.shares3 fullShare t := if_pos h

omit [FloatOps F] in
/-- The own class half is read by the three copies to the peers; -/
theorem deal_own0 : (pts c (rows (olo c 0) (oln 0)) fullShare (final X c) : sProp 𝕄)
    ⊣⊢ iprop(dmaPay X c false (0, 0) ∗ dmaPay X c false (0, 1) ∗ dmaPay X c false (0, 2)) := by
  rw [gone_eq, gone_eq, gone_eq, (slo_own c 0).1, (slo_own c 1).1, (slo_own c 2).1,
    lshare_y 0 0 (by decide), lshare_y 0 1 (by decide), lshare_y 0 2 (by decide), show rln 0 = oln 0 from rfl]
  unfold pts
  exact Ring.pointsTo_thirds (ℓ := (c : Thread nD τ).loc cc0_stg1_0) fullShare (final X c)
omit [FloatOps F] in
/-- and so is the own quarter. -/
theorem deal_own1 : (pts c (rows (olo c 1) (oln 1)) fullShare (final X c) : sProp 𝕄)
    ⊣⊢ iprop(dmaPay X c false (1, 0) ∗ dmaPay X c false (1, 1) ∗ dmaPay X c false (1, 2)) := by
  rw [gone_eq, gone_eq, gone_eq, (slo_own c 0).2, (slo_own c 1).2, (slo_own c 2).2,
    lshare_y 1 0 (by decide), lshare_y 1 1 (by decide), lshare_y 1 2 (by decide), show rln 1 = oln 1 from rfl]
  unfold pts
  exact Ring.pointsTo_thirds (ℓ := (c : Thread nD τ).loc cc0_stg1_0) fullShare (final X c)

/-- The rows of a window `g` that copy `g'` doesn't read. -/
def rest (g g' : Leg) : sProp 𝕄 := pts c (rows (rlo c g) (rln g.1) \ rows (slo c g') (rln g'.1)) fullShare (final X c)

omit [FloatOps F] in
/-- A copy that alone reads a part of a window. -/
theorem deal_one (g g' : Leg) (h : rlo c g ≤ slo c g') (h' : slo c g' + rln g'.1 ≤ rlo c g + rln g.1) (hs : lshare g' = fullShare) :
    dmaPay X c true g ⊣⊢ iprop(dmaPay X c false g' ∗ rest X c g g') := by
  rw [came_eq, gone_eq, hs]
  exact pointsTo_split_subset (rows_sub h h')

omit [FloatOps F] in
theorem deal_zrel : dmaPay X c true (3, s) ⊣⊢ iprop(dmaPay X c false (7, s) ∗ rest X c (3, s) (7, s)) :=
  deal_one X c (3, s) (7, s) (slo_zrel c s).1 (slo_zrel c s).2 rfl
omit [FloatOps F] in
theorem deal_xrel : dmaPay X c true (5, s) ⊣⊢ iprop(dmaPay X c false (6, s) ∗ rest X c (5, s) (6, s)) :=
  deal_one X c (5, s) (6, s) (slo_xrel c s).1 (slo_xrel c s).2 rfl

omit [FloatOps F] in
/-- The relays of a received quarter both read all of it; -/
theorem deal_sig : dmaPay X c true (1, s) ⊣⊢ iprop(dmaPay X c false (3, s) ∗ dmaPay X c false (5, s)) := by
  rw [came_eq, gone_eq, gone_eq, (slo_sig c s).1, (slo_sig c s).2]
  exact pointsTo_share (PosShare.mem_left_op_right fullShare)
omit [FloatOps F] in
/-- those of a received class half both one half of it. -/
theorem deal_del : dmaPay X c true (0, s) ⊣⊢ iprop((dmaPay X c false (2, s) ∗ dmaPay X c false (4, s)) ∗ rest X c (0, s) (2, s)) := by
  have h := slo_del c s
  have e : iprop(dmaPay X c false (2, s) ∗ dmaPay X c false (4, s)) ⊣⊢ pts c (rows (slo c (2, s)) 6) fullShare (final X c) := by
    rw [gone_eq, gone_eq, ← h.1]
    exact (pointsTo_share (PosShare.mem_left_op_right fullShare)).symm
  have e' : dmaPay X c true (0, s) ⊣⊢ iprop(pts c (rows (slo c (2, s)) 6) fullShare (final X c) ∗ rest X c (0, s) (2, s)) := by
    rw [came_eq]
    exact pointsTo_split_subset (rows_sub h.2.1 h.2.2)
  exact ⟨e'.1.trans (sep_mono_left e.2), (sep_mono_left e.1).trans e'.2⟩

end

/-! ## The phases -/

section
variable (K : Dev nD × CK → ℕ) (c : Dev nD)

/-- The two copies to peer `t`. -/
theorem runs_ySend (t : Fin 3) (gs : List Leg) {n n' : Dev nD} (hn : n = peer c t) (hn' : n' = peer c t) {p : Body F} {Q : PUnit → sProp 𝕄} :
    iprop(records X K ∗ ow c (((0, t) :: (1, t) :: gs).map (due c)) ∗ Snd c (0, t) ∗ Snd c (1, t) ∗ dmaPay X c false (0, t) ∗ dmaPay X c false (1, t))
      ⊢ iprop(((ow c (gs.map (due c)) ∗ Wt c false (0, t) ∗ Wt c false (1, t)) -∗ runs c p Q) -∗ runs c (ySend c t n n' p) Q) := by
  unfold ySend
  simp only [List.map_cons]
  iintro ⟨#HR, HO, HS₀, HS₁, HP₀, HP₁⟩ Hk
  iapply (runs_send X K c (0, t) _ (off6 c t) rfl hn (sem_send0 t) (sem_recv0 c t)) $$ [HO HS₀ HP₀]
  · isplitr; · iexact HR
    isplitl [HO]; · iexact HO
    isplitl [HS₀] <;> iassumption
  iintro ⟨HO, HW₀⟩
  iapply (runs_send X K c (1, t) _ (off8 c t) rfl hn' (sem_send1 t) (sem_recv1 c t)) $$ [HO HS₁ HP₁]
  · isplitr; · iexact HR
    isplitl [HO]; · iexact HO
    isplitl [HS₁] <;> iassumption
  iintro ⟨HO, HW₁⟩
  iapply Hk
  isplitl [HO]; · iexact HO
  isplitl [HW₀] <;> iassumption

/-- What a turn of the first loop takes and leaves. -/
def aPre (s : Fin 3) : sProp 𝕄 :=
  iprop(Wt c true (0, s) ∗ Wt c true (1, s) ∗ Snd c (2, s) ∗ Snd c (3, s) ∗ Snd c (4, s) ∗ Snd c (5, s))
def aPost (s : Fin 3) : sProp 𝕄 :=
  iprop(rest X c (0, s) (2, s) ∗ Zero c (some (true, (0, s))) ∗ Zero c (some (true, (1, s)))
    ∗ Wt c false (2, s) ∗ Wt c false (3, s) ∗ Wt c false (4, s) ∗ Wt c false (5, s))

/-- One turn of the first loop. -/
theorem runs_turnA (j : Fin 3) (gs : List Leg) (hgs : above 2 gs = true) {n₁ n₂ n₃ n₄ : Dev nD} (h₁ : n₁ = partner c) (h₂ : n₂ = buddy c)
    (h₃ : n₃ = partner c) (h₄ : n₄ = buddy c) {p : Body F} {Q : PUnit → sProp 𝕄} :
    iprop(records X K ∗ levAts L lv ∗ ow c (((2, ord c j) :: (4, ord c j) :: (3, ord c j) :: (5, ord c j) :: gs).map (due c)) ∗ aPre c (ord c j))
      ⊢ iprop(((ow c (gs.map (due c)) ∗ aPost X c (ord c j)) -∗ runs c p Q) -∗ runs c (turnA c j n₁ n₂ n₃ n₄ p) Q) := by
  unfold turnA aPre aPost
  iintro ⟨#HR, #Hlev, HO, HW₀, HW₁, HS₂, HS₃, HS₄, HS₅⟩ Hk
  iapply (runs_wait X K c true (0, ord c j) _ (show above 2 ((2, ord c j) :: (4, ord c j) :: (3, ord c j) :: (5, ord c j) :: gs) = true from hgs)
    (sem_wait0 c j) rfl) $$ [HO HW₀]
  · isplitr; · iexact HR
    isplitr; · iexact Hlev
    isplitl [HO] <;> iassumption
  iintro ⟨HO, HZ₀, HP⟩
  ihave HP' := (deal_del X c (ord c j)).1 $$ HP
  icases HP' with ⟨⟨HP₂, HP₄⟩, Hrest⟩
  simp only [List.map_cons]
  iapply (runs_send X K c (2, ord c j) _ (off16 c j) rfl h₁ (sem_s2 c j) (sem_r2 c j)) $$ [HO HS₂ HP₂]
  · isplitr; · iexact HR
    isplitl [HO]; · iexact HO
    isplitl [HS₂] <;> iassumption
  iintro ⟨HO, HW₂⟩
  iapply (runs_send X K c (4, ord c j) _ ((off16 c j).trans (by rw [(slo_del c (ord c j)).1])) rfl h₂ (sem_s4 c j) (sem_r4 c j)) $$ [HO HS₄ HP₄]
  · isplitr; · iexact HR
    isplitl [HO]; · iexact HO
    isplitl [HS₄] <;> iassumption
  iintro ⟨HO, HW₄⟩
  simp only [← List.map_cons]
  iapply (runs_wait X K c true (1, ord c j) _ (show above 2 ((3, ord c j) :: (5, ord c j) :: gs) = true from hgs) (sem_wait1 c j) rfl) $$ [HO HW₁]
  · isplitr; · iexact HR
    isplitr; · iexact Hlev
    isplitl [HO] <;> iassumption
  iintro ⟨HO, HZ₁, HP⟩
  ihave HP' := (deal_sig X c (ord c j)).1 $$ HP
  icases HP' with ⟨HP₃, HP₅⟩
  simp only [List.map_cons]
  iapply (runs_send X K c (3, ord c j) _ (off18 c j) rfl h₃ (sem_s3 c j) (sem_r3 c j)) $$ [HO HS₃ HP₃]
  · isplitr; · iexact HR
    isplitl [HO]; · iexact HO
    isplitl [HS₃] <;> iassumption
  iintro ⟨HO, HW₃⟩
  iapply (runs_send X K c (5, ord c j) _ ((off18 c j).trans (by rw [(slo_sig c (ord c j)).1, (slo_sig c (ord c j)).2])) rfl h₄ (sem_s5 c j) (sem_r5 c j)) $$ [HO HS₅ HP₅]
  · isplitr; · iexact HR
    isplitl [HO]; · iexact HO
    isplitl [HS₅] <;> iassumption
  iintro ⟨HO, HW₅⟩
  iapply Hk
  isplitl [HO]; · iexact HO
  isplitl [Hrest]; · iexact Hrest
  isplitl [HZ₀]; · iexact HZ₀
  isplitl [HZ₁]; · iexact HZ₁
  isplitl [HW₂]; · iexact HW₂
  isplitl [HW₃]; · iexact HW₃
  isplitl [HW₄] <;> iassumption

/-- What a turn of the second loop takes and leaves. -/
def bPre (s : Fin 3) : sProp 𝕄 := iprop(Wt c true (3, s) ∗ Wt c true (5, s) ∗ Snd c (6, s) ∗ Snd c (7, s))
def bPost (s : Fin 3) : sProp 𝕄 :=
  iprop(rest X c (3, s) (7, s) ∗ rest X c (5, s) (6, s) ∗ Zero c (some (true, (3, s))) ∗ Zero c (some (true, (5, s)))
    ∗ Wt c false (6, s) ∗ Wt c false (7, s))

/-- One turn of the second loop. -/
theorem runs_turnB (j : Fin 3) (gs : List Leg) (hgs : above 3 gs = true) {n₁ n₂ : Dev nD} (h₁ : n₁ = buddy c) (h₂ : n₂ = partner c)
    {p : Body F} {Q : PUnit → sProp 𝕄} :
    iprop(records X K ∗ levAts L lv ∗ ow c (((7, ord c j) :: (6, ord c j) :: gs).map (due c)) ∗ bPre c (ord c j))
      ⊢ iprop(((ow c (gs.map (due c)) ∗ bPost X c (ord c j)) -∗ runs c p Q) -∗ runs c (turnB c j n₁ n₂ p) Q) := by
  unfold turnB bPre bPost
  iintro ⟨#HR, #Hlev, HO, HW₃, HW₅, HS₆, HS₇⟩ Hk
  iapply (runs_wait X K c true (3, ord c j) _ (show above 3 ((7, ord c j) :: (6, ord c j) :: gs) = true from hgs) (sem_r3 c j) rfl) $$ [HO HW₃]
  · isplitr; · iexact HR
    isplitr; · iexact Hlev
    isplitl [HO] <;> iassumption
  iintro ⟨HO, HZ₃, HP⟩
  ihave HP' := (deal_zrel X c (ord c j)).1 $$ HP
  icases HP' with ⟨HP₇, Hrest₃⟩
  simp only [List.map_cons]
  iapply (runs_send X K c (7, ord c j) _ (off20 c j) rfl h₁ (sem_s7 c j) (sem_r7 c j)) $$ [HO HS₇ HP₇]
  · isplitr; · iexact HR
    isplitl [HO]; · iexact HO
    isplitl [HS₇] <;> iassumption
  iintro ⟨HO, HW₇⟩
  simp only [← List.map_cons]
  iapply (runs_wait X K c true (5, ord c j) _ (show above 3 ((6, ord c j) :: gs) = true from hgs) (sem_r5 c j) rfl) $$ [HO HW₅]
  · isplitr; · iexact HR
    isplitr; · iexact Hlev
    isplitl [HO] <;> iassumption
  iintro ⟨HO, HZ₅, HP⟩
  ihave HP' := (deal_xrel X c (ord c j)).1 $$ HP
  icases HP' with ⟨HP₆, Hrest₅⟩
  simp only [List.map_cons]
  iapply (runs_send X K c (6, ord c j) _ (off22 c j) rfl h₂ (sem_s6 c j) (sem_r6 c j)) $$ [HO HS₆ HP₆]
  · isplitr; · iexact HR
    isplitl [HO]; · iexact HO
    isplitl [HS₆] <;> iassumption
  iintro ⟨HO, HW₆⟩
  iapply Hk
  isplitl [HO]; · iexact HO
  isplitl [Hrest₃]; · iexact Hrest₃
  isplitl [Hrest₅]; · iexact Hrest₅
  isplitl [HZ₃]; · iexact HZ₃
  isplitl [HZ₅]; · iexact HZ₅
  isplitl [HW₆] <;> iassumption

/-- What a leg leaves that arrived, or that left: its rows, and its cell through. -/
def Done (b : Bool) (g : Leg) : sProp 𝕄 := iprop(Zero c (some (b, g)) ∗ dmaPay X c b g)

/-- A wait when nothing is owed. -/
theorem runs_done (b : Bool) (g : Leg)
    {off sz : Fin 2 → ℕ} {h : ∀ a, off a + sz a ≤ S8192x512.size a} {hw : (rOut off sz h).WholeWords (EltTy.packing .bf16)} {s : DmaSem sig}
    (hs : s = dmaNo b g) (hz : sz = ![32 * rln g.1, 512]) {p : Body F} {Q : PUnit → sProp 𝕄} :
    iprop(records X K ∗ levAts L lv ∗ ow c [] ∗ Wt c b g)
      ⊢ iprop(((ow c [] ∗ Done X c b g) -∗ runs c p Q) -∗ runs c (waitOp off sz h hw s p) Q) := by
  unfold Done
  exact runs_wait X K c b g [] rfl hs hz

def cPre (s : Fin 3) : sProp 𝕄 := iprop(Wt c true (2, s) ∗ Wt c true (4, s) ∗ Wt c true (6, s) ∗ Wt c true (7, s))
def cPost (s : Fin 3) : sProp 𝕄 := iprop(Done X c true (2, s) ∗ Done X c true (4, s) ∗ Done X c true (6, s) ∗ Done X c true (7, s))

/-- One turn of the third loop. -/
theorem runs_turnC (j : Fin 3) {p : Body F} {Q : PUnit → sProp 𝕄} :
    iprop(records X K ∗ levAts L lv ∗ ow c [] ∗ cPre c (ord c j))
      ⊢ iprop(((ow c [] ∗ cPost X c (ord c j)) -∗ runs c p Q) -∗ runs c (turnC c j p) Q) := by
  unfold turnC cPre cPost
  iintro ⟨#HR, #Hlev, HO, HW₂, HW₄, HW₆, HW₇⟩ Hk
  iapply (runs_done X K c true (2, ord c j) (sem_r2 c j) rfl) $$ [HO HW₂]
  · isplitr; · iexact HR
    isplitr; · iexact Hlev
    isplitl [HO] <;> iassumption
  iintro ⟨HO, H₂⟩
  iapply (runs_done X K c true (4, ord c j) (sem_r4 c j) rfl) $$ [HO HW₄]
  · isplitr; · iexact HR
    isplitr; · iexact Hlev
    isplitl [HO] <;> iassumption
  iintro ⟨HO, H₄⟩
  iapply (runs_done X K c true (6, ord c j) (sem_r6 c j) rfl) $$ [HO HW₆]
  · isplitr; · iexact HR
    isplitr; · iexact Hlev
    isplitl [HO] <;> iassumption
  iintro ⟨HO, H₆⟩
  iapply (runs_done X K c true (7, ord c j) (sem_r7 c j) rfl) $$ [HO HW₇]
  · isplitr; · iexact HR
    isplitr; · iexact Hlev
    isplitl [HO] <;> iassumption
  iintro ⟨HO, H₇⟩
  iapply Hk
  isplitl [HO]; · iexact HO
  isplitl [H₂]; · iexact H₂
  isplitl [H₄]; · iexact H₄
  isplitl [H₆] <;> iassumption

/-- The waits for the copies to peer `t`. -/
theorem runs_yDone (t : Fin 3) {p : Body F} {Q : PUnit → sProp 𝕄} :
    iprop(records X K ∗ levAts L lv ∗ ow c [] ∗ Wt c false (0, t) ∗ Wt c false (1, t))
      ⊢ iprop(((ow c [] ∗ Done X c false (0, t) ∗ Done X c false (1, t)) -∗ runs c p Q) -∗ runs c (yDone c t p) Q) := by
  unfold yDone
  iintro ⟨#HR, #Hlev, HO, HW₀, HW₁⟩ Hk
  iapply (runs_done X K c false (0, t) (sem_send0 t) rfl) $$ [HO HW₀]
  · isplitr; · iexact HR
    isplitr; · iexact Hlev
    isplitl [HO] <;> iassumption
  iintro ⟨HO, H₀⟩
  iapply (runs_done X K c false (1, t) (sem_send1 t) rfl) $$ [HO HW₁]
  · isplitr; · iexact HR
    isplitr; · iexact Hlev
    isplitl [HO] <;> iassumption
  iintro ⟨HO, H₁⟩
  iapply Hk
  isplitl [HO]; · iexact HO
  isplitl [H₀] <;> iassumption

def dPre (s : Fin 3) : sProp 𝕄 :=
  iprop(Wt c false (2, s) ∗ Wt c false (3, s) ∗ Wt c false (4, s) ∗ Wt c false (5, s) ∗ Wt c false (6, s) ∗ Wt c false (7, s))
def dPost (s : Fin 3) : sProp 𝕄 :=
  iprop(Done X c false (2, s) ∗ Done X c false (3, s) ∗ Done X c false (4, s) ∗ Done X c false (5, s) ∗ Done X c false (6, s) ∗ Done X c false (7, s))

/-- The waits for a slot's relays. -/
theorem runs_turnD (j : Fin 3) {p : Body F} {Q : PUnit → sProp 𝕄} :
    iprop(records X K ∗ levAts L lv ∗ ow c [] ∗ dPre c (ord c j))
      ⊢ iprop(((ow c [] ∗ dPost X c (ord c j)) -∗ runs c p Q) -∗ runs c (turnD c j p) Q) := by
  unfold turnD dPre dPost
  iintro ⟨#HR, #Hlev, HO, HW₂, HW₃, HW₄, HW₅, HW₆, HW₇⟩ Hk
  iapply (runs_done X K c false (2, ord c j) (sem_s2 c j) rfl) $$ [HO HW₂]
  · isplitr; · iexact HR
    isplitr; · iexact Hlev
    isplitl [HO] <;> iassumption
  iintro ⟨HO, H₂⟩
  iapply (runs_done X K c false (4, ord c j) (sem_s4 c j) rfl) $$ [HO HW₄]
  · isplitr; · iexact HR
    isplitr; · iexact Hlev
    isplitl [HO] <;> iassumption
  iintro ⟨HO, H₄⟩
  iapply (runs_done X K c false (3, ord c j) (sem_s3 c j) rfl) $$ [HO HW₃]
  · isplitr; · iexact HR
    isplitr; · iexact Hlev
    isplitl [HO] <;> iassumption
  iintro ⟨HO, H₃⟩
  iapply (runs_done X K c false (5, ord c j) (sem_s5 c j) rfl) $$ [HO HW₅]
  · isplitr; · iexact HR
    isplitr; · iexact Hlev
    isplitl [HO] <;> iassumption
  iintro ⟨HO, H₅⟩
  iapply (runs_done X K c false (7, ord c j) (sem_s7 c j) rfl) $$ [HO HW₇]
  · isplitr; · iexact HR
    isplitr; · iexact Hlev
    isplitl [HO] <;> iassumption
  iintro ⟨HO, H₇⟩
  iapply (runs_done X K c false (6, ord c j) (sem_s6 c j) rfl) $$ [HO HW₆]
  · isplitr; · iexact HR
    isplitr; · iexact Hlev
    isplitl [HO] <;> iassumption
  iintro ⟨HO, H₆⟩
  iapply Hk
  isplitl [HO]; · iexact HO
  isplitl [H₂]; · iexact H₂
  isplitl [H₃]; · iexact H₃
  isplitl [H₄]; · iexact H₄
  isplitl [H₅]; · iexact H₅
  isplitl [H₆] <;> iassumption

end

end Cert.Gather

end
-- ==== Proof.Body.lean ====
/-
# The body

What a device starts its body from and what it ends with, taken apart into what each phase needs and put together again;
and the run of the whole body.
-/
module

public import proofs.«01_k».proof.Proof.Phases

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Legs and cells taken one by one -/

omit [FloatOps F] in
/-- All legs, three packs of one leg of each channel, the slots of a channel in an order of its own. -/
theorem legs_eq (e : Ch → Fin 3 ≃ Fin 3) (Φ : Leg → sProp 𝕄) :
    bigSep Finset.univ Φ = bigSep Finset.univ fun j : Fin 3 => bigSep Finset.univ fun ch : Ch => Φ (ch, e ch j) := by
  rw [bigSep_univ_prod, bigSep_univ_comm (fun (j : Fin 3) (ch : Ch) => Φ (ch, e ch j))]
  exact bigSep_congr fun ch _ => bigSep_univ_equiv (e ch) fun s => Φ (ch, s)

/-- A leg of each channel, of given slots. -/
def pack (s : Ch → Fin 3) (Φ : Leg → sProp 𝕄) : sProp 𝕄 :=
  iprop(Φ (0, s 0) ∗ Φ (1, s 1) ∗ Φ (2, s 2) ∗ Φ (3, s 3) ∗ Φ (4, s 4) ∗ Φ (5, s 5) ∗ Φ (6, s 6) ∗ Φ (7, s 7))

omit [FloatOps F] in
theorem legs_packs (e : Ch → Fin 3 ≃ Fin 3) (Φ : Leg → sProp 𝕄) :
    bigSep Finset.univ Φ = iprop(pack (fun ch => e ch 0) Φ ∗ pack (fun ch => e ch 1) Φ ∗ pack (fun ch => e ch 2) Φ) := by
  have hp : ∀ j : Fin 3, (bigSep Finset.univ fun ch : Ch => Φ (ch, e ch j)) = pack (fun ch => e ch j) Φ := fun j =>
    bigSep_univ_eq_bigSepL [0, 1, 2, 3, 4, 5, 6, 7] (by decide) (by decide) _
  rw [legs_eq e, bigSep_univ_eq_bigSepL [(0 : Fin 3), 1, 2] (by decide) (by decide), bigSepL_cons_cons, bigSepL_cons_cons, bigSepL_singleton, hp, hp, hp]
  rfl

/-- The slots in the order of the loops, and the slots of the copies sent: those to the peers in the peers' order. -/
def recvSlots (c : Dev nD) (_ : Ch) : Fin 3 ≃ Fin 3 := ordEquiv c
def sendSlots (c : Dev nD) (ch : Ch) : Fin 3 ≃ Fin 3 := if ch.val < 2 then Equiv.refl _ else ordEquiv c

abbrev rpack (c : Dev nD) (j : Fin 3) (Φ : Leg → sProp 𝕄) : sProp 𝕄 :=
  iprop(Φ (0, ord c j) ∗ Φ (1, ord c j) ∗ Φ (2, ord c j) ∗ Φ (3, ord c j) ∗ Φ (4, ord c j) ∗ Φ (5, ord c j) ∗ Φ (6, ord c j) ∗ Φ (7, ord c j))
abbrev spack (c : Dev nD) (j : Fin 3) (Φ : Leg → sProp 𝕄) : sProp 𝕄 :=
  iprop(Φ (0, j) ∗ Φ (1, j) ∗ Φ (2, ord c j) ∗ Φ (3, ord c j) ∗ Φ (4, ord c j) ∗ Φ (5, ord c j) ∗ Φ (6, ord c j) ∗ Φ (7, ord c j))

omit [FloatOps F] in
theorem legs_recv (c : Dev nD) (Φ : Leg → sProp 𝕄) : bigSep Finset.univ Φ = iprop(rpack c 0 Φ ∗ rpack c 1 Φ ∗ rpack c 2 Φ) :=
  legs_packs (recvSlots c) Φ
omit [FloatOps F] in
theorem legs_send (c : Dev nD) (Φ : Leg → sProp 𝕄) : bigSep Finset.univ Φ = iprop(spack c 0 Φ ∗ spack c 1 Φ ∗ spack c 2 Φ) :=
  legs_packs (sendSlots c) Φ

omit [FloatOps F] in
/-- Something for `none` and for each `some`. -/
theorem option_split {I : Type} [Fintype I] [DecidableEq I] (Φ : Option I → sProp 𝕄) :
    bigSep Finset.univ Φ = iprop(Φ none ∗ bigSep Finset.univ fun i => Φ (some i)) := by
  rw [bigSep_univ_equiv (Equiv.optionEquivSumPUnit I).symm Φ, bigSep_univ_sum,
    bigSep_univ_eq_bigSepL [PUnit.unit.{1}] (by decide) (by decide), bigSepL_singleton]
  exact BI.Entails.antisymm (sep_comm (PROP := sProp 𝕄)).1 (sep_comm (PROP := sProp 𝕄)).2

omit [FloatOps F] in
/-- All cells of a device: its barrier's, those of what it sends, those of what it receives. -/
theorem cells_split (Φ : CK → sProp 𝕄) :
    bigSep Finset.univ Φ = iprop(Φ none ∗ (bigSep Finset.univ fun g => Φ (some (false, g))) ∗ bigSep Finset.univ fun g => Φ (some (true, g))) := by
  rw [option_split, bigSep_univ_prod, bigSep_univ_eq_bigSepL [false, true] (by decide) (by decide), bigSepL_cons_cons, bigSepL_singleton]
  rfl

/-- The output, its windows one by one. -/
theorem windows (c : Dev nD) (f : Out F) :
    (pts c Finset.univ fullShare f : sProp 𝕄) = iprop((bigSep Finset.univ fun k : Fin 6 => pts c (rows (olo c k) (oln k)) fullShare f)
      ∗ bigSep Finset.univ fun g : Leg => pts c (rows (rlo c g) (rln g.1)) fullShare f) := by
  unfold pts
  rw [rows_cover c, pointsTo_biUnion (ℓ := (c : Thread nD τ).loc cc0_stg1_0) Finset.univ (fun w => rows (wlo c w) (wln w)) (fun w _ w' _ h => rows_disjoint c w w' h), bigSep_univ_sum]
  rfl

variable (X : Dev nD → Blk F)

/-! ## Packs for the phases -/

section
variable (c : Dev nD)

def yPre (t : Fin 3) : sProp 𝕄 := iprop(Snd (F := F) c (0, t) ∗ Snd c (1, t))

theorem packs_in (j : Fin 3) : iprop(rpack c j (Wt (F := F) c true) ∗ spack c j (Snd c)) ⊢ iprop(yPre c j ∗ aPre c (ord c j) ∗ bPre c (ord c j) ∗ cPre c (ord c j)) := by
  unfold yPre aPre bPre cPre
  iintro ⟨⟨W₀, W₁, W₂, W₃, W₄, W₅, W₆, W₇⟩, S₀, S₁, S₂, S₃, S₄, S₅, S₆, S₇⟩
  isplitl [S₀ S₁]
  · isplitl [S₀] <;> iassumption
  isplitl [W₀ W₁ S₂ S₃ S₄ S₅]
  · isplitl [W₀]; · iexact W₀
    isplitl [W₁]; · iexact W₁
    isplitl [S₂]; · iexact S₂
    isplitl [S₃]; · iexact S₃
    isplitl [S₄] <;> iassumption
  isplitl [W₃ W₅ S₆ S₇]
  · isplitl [W₃]; · iexact W₃
    isplitl [W₅]; · iexact W₅
    isplitl [S₆] <;> iassumption
  isplitl [W₂]; · iexact W₂
  isplitl [W₄]; · iexact W₄
  isplitl [W₆] <;> iassumption

/-- What the first two loops leave of a slot beside the relays to await. -/
def abRest (s : Fin 3) : sProp 𝕄 :=
  iprop((rest X c (0, s) (2, s) ∗ Zero c (some (true, (0, s))) ∗ Zero c (some (true, (1, s))))
    ∗ rest X c (3, s) (7, s) ∗ rest X c (5, s) (6, s) ∗ Zero c (some (true, (3, s))) ∗ Zero c (some (true, (5, s))))

theorem packs_mid (s : Fin 3) : iprop(aPost X c s ∗ bPost X c s) ⊢ iprop(dPre c s ∗ abRest X c s) := by
  unfold aPost bPost dPre abRest
  iintro ⟨⟨R₀, Z₀, Z₁, W₂, W₃, W₄, W₅⟩, R₃, R₅, Z₃, Z₅, W₆, W₇⟩
  isplitl [W₂ W₃ W₄ W₅ W₆ W₇]
  · isplitl [W₂]; · iexact W₂
    isplitl [W₃]; · iexact W₃
    isplitl [W₄]; · iexact W₄
    isplitl [W₅]; · iexact W₅
    isplitl [W₆] <;> iassumption
  isplitl [R₀ Z₀ Z₁]
  · isplitl [R₀]; · iexact R₀
    isplitl [Z₀] <;> iassumption
  isplitl [R₃]; · iexact R₃
  isplitl [R₅]; · iexact R₅
  isplitl [Z₃] <;> iassumption

/-- The cells of a slot's relays, through. -/
def dZero (s : Fin 3) : sProp 𝕄 :=
  iprop(Zero (F := F) c (some (false, (2, s))) ∗ Zero c (some (false, (3, s))) ∗ Zero c (some (false, (4, s))) ∗ Zero c (some (false, (5, s)))
    ∗ Zero c (some (false, (6, s))) ∗ Zero c (some (false, (7, s))))

theorem packs_out (j : Fin 3) : iprop(abRest X c (ord c j) ∗ cPost X c (ord c j) ∗ dPost X c (ord c j)) ⊢ iprop(rpack c j (Done X c true) ∗ dZero c (ord c j)) := by
  unfold abRest cPost dPost dZero rpack Done
  iintro ⟨⟨⟨R₀, Z₀, Z₁⟩, R₃, R₅, Z₃, Z₅⟩, ⟨D₂, D₄, D₆, D₇⟩, ⟨Y₂, P₂⟩, ⟨Y₃, P₃⟩, ⟨Y₄, P₄⟩, ⟨Y₅, P₅⟩, ⟨Y₆, P₆⟩, Y₇, P₇⟩
  ihave W₀ := (deal_del X c (ord c j)).2 $$ [P₂ P₄ R₀]
  · isplitl [P₂ P₄]
    · isplitl [P₂] <;> iassumption
    · iexact R₀
  ihave W₁ := (deal_sig X c (ord c j)).2 $$ [P₃ P₅]
  · isplitl [P₃] <;> iassumption
  ihave W₃ := (deal_zrel X c (ord c j)).2 $$ [P₇ R₃]
  · isplitl [P₇] <;> iassumption
  ihave W₅ := (deal_xrel X c (ord c j)).2 $$ [P₆ R₅]
  · isplitl [P₆] <;> iassumption
  isplitr [Y₂ Y₃ Y₄ Y₅ Y₆ Y₇]
  · isplitl [Z₀ W₀]
    · isplitl [Z₀] <;> iassumption
    isplitl [Z₁ W₁]
    · isplitl [Z₁] <;> iassumption
    isplitl [D₂]; · iexact D₂
    isplitl [Z₃ W₃]
    · isplitl [Z₃] <;> iassumption
    isplitl [D₄]; · iexact D₄
    isplitl [Z₅ W₅]
    · isplitl [Z₅] <;> iassumption
    isplitl [D₆] <;> iassumption
  isplitl [Y₂]; · iexact Y₂
  isplitl [Y₃]; · iexact Y₃
  isplitl [Y₄]; · iexact Y₄
  isplitl [Y₅]; · iexact Y₅
  isplitl [Y₆] <;> iassumption

end

/-! ## The whole body -/

/-- What device `c` alone starts from: its positions, and the tokens of its payments. -/
def linear (c : Dev nD) : sProp 𝕄 :=
  iprop((bigSep Finset.univ fun k : CK => atPos ER (kcell (c, k)) 0 ∅ 0)
    ∗ (bigSep Finset.univ fun k : Fin 5 => dutyTok ER (kcell (dueSig c k)) 0 (sigDuty k))
    ∗ (bigSep Finset.univ fun g : Leg => dutyTok ER (kcell (c, some (false, g))) 0 (0 : Fin 5))
    ∗ bigSep Finset.univ fun g : Leg => dutyTok ER (kcell (due c g)) 0 (0 : Fin 5))

/-- Its credit: the barrier's five units and that of every arrival. -/
def credits (c : Dev nD) : sProp 𝕄 :=
  iprop(cred (tallyAt (kcell (c, none)) () 5) ∗ bigSep Finset.univ fun g : Leg => cred (tallyAt (kcell (c, some (true, g))) () (amt g.1)))

section
variable (K : Dev nD × CK → ℕ) (c : Dev nD)

/-- The windows in which device `c` receives, gathered by the signal that hands them over. -/
def toHand (k : Fin 5) : sProp 𝕄 := bigSep (Finset.univ.filter fun g => recvSig c g = k) fun g => mine (F := F) c g

omit [FloatOps F] in
theorem hand (f : Out F) : (bigSep Finset.univ fun g : Leg => pts c (rows (rlo c g) (rln g.1)) fullShare f : sProp 𝕄)
    ⊢ iprop(toHand c 0 ∗ toHand c 1 ∗ toHand c 2 ∗ toHand c 3 ∗ toHand c 4) := by
  refine BIBase.Entails.trans (bigSep_mono (Ψ := fun g => mine (F := F) c g) fun g _ => ?_) (Entails.of_eq ?_)
  · unfold mine; exact BIClass.exists_intro (Φ := fun f => pts c (rows (rlo c g) (rln g.1)) fullShare f) f
  · rw [bigSep_by (recvSig c), bigSep_univ_eq_bigSepL [(0 : Fin 5), 1, 2, 3, 4] (by decide) (by decide)]; rfl

omit [FloatOps F] in
/-- The six own windows. -/
theorem own6 (f : Out F) : (bigSep Finset.univ fun k : Fin 6 => pts c (rows (olo c k) (oln k)) fullShare f : sProp 𝕄)
    = iprop(pts c (rows (olo c 0) (oln 0)) fullShare f ∗ pts c (rows (olo c 1) (oln 1)) fullShare f ∗ pts c (rows (olo c 2) (oln 2)) fullShare f
      ∗ pts c (rows (olo c 3) (oln 3)) fullShare f ∗ pts c (rows (olo c 4) (oln 4)) fullShare f ∗ pts c (rows (olo c 5) (oln 5)) fullShare f) :=
  bigSep_univ_eq_bigSepL [(0 : Fin 6), 1, 2, 3, 4, 5] (by decide) (by decide) _

/-- The handshake. -/
theorem runs_signals {p : Body F} {Q : PUnit → sProp 𝕄} (gs : List Leg) (hgs : above 1 gs = true) :
    iprop(records X K ∗ levAts L lv ∗ ow c ([dueSig c 0, dueSig c 1, dueSig c 2, dueSig c 3, dueSig c 4] ++ gs.map (due c))
        ∗ (bigSep Finset.univ fun k : Fin 5 => dutyTok ER (kcell (dueSig c k)) 0 (sigDuty k))
        ∗ (toHand c 0 ∗ toHand c 1 ∗ toHand c 2 ∗ toHand c 3 ∗ toHand c 4)
        ∗ cred (tallyAt (kcell (c, none)) () 5) ∗ atPos ER (kcell (c, none)) 0 ∅ 0)
      ⊢ iprop(((ow c (gs.map (due c)) ∗ Zero c none ∗ bigSep Finset.univ fun g => free (F := F) c g) -∗ runs c p Q)
          -∗ runs c (sigOp ⟨k0_dev1 c, k0_dev1_lt c⟩ <| sigOp ⟨k0_dev2 c, k0_dev2_lt c⟩ <| sigOp ⟨k0_dev3 c, k0_dev3_lt c⟩ <|
            sigOp ⟨k0_dev4 c, k0_dev4_lt c⟩ <| sigOp ⟨k0_dev5 c, k0_dev5_lt c⟩ <|
            Prog.op (.semWait barS (5#32 : BitVec 32).toInt) fun _ => p) Q) := by
  rw [show (bigSep Finset.univ fun k : Fin 5 => (dutyTok ER (kcell (dueSig c k)) 0 (sigDuty k) : sProp 𝕄))
    = iprop(dutyTok ER (kcell (dueSig c 0)) 0 (sigDuty 0) ∗ dutyTok ER (kcell (dueSig c 1)) 0 (sigDuty 1) ∗ dutyTok ER (kcell (dueSig c 2)) 0 (sigDuty 2)
      ∗ dutyTok ER (kcell (dueSig c 3)) 0 (sigDuty 3) ∗ dutyTok ER (kcell (dueSig c 4)) 0 (sigDuty 4)) from
    bigSep_univ_eq_bigSepL [(0 : Fin 5), 1, 2, 3, 4] (by decide) (by decide) _]
  unfold toHand
  iintro ⟨#HR, #Hlev, HO, ⟨T₀, T₁, T₂, T₃, T₄⟩, ⟨M₀, M₁, M₂, M₃, M₄⟩, Hc, Ha⟩ Hk
  simp only [List.cons_append, List.nil_append]
  iapply (runs_sig X K c 0 (dev_sig0 c) _) $$ [HO T₀ M₀]
  · isplitr; · iexact HR
    isplitl [HO]; · iexact HO
    isplitl [T₀] <;> iassumption
  iintro HO
  iapply (runs_sig X K c 1 (dev_sig1 c) _) $$ [HO T₁ M₁]
  · isplitr; · iexact HR
    isplitl [HO]; · iexact HO
    isplitl [T₁] <;> iassumption
  iintro HO
  iapply (runs_sig X K c 2 (dev_sig2 c) _) $$ [HO T₂ M₂]
  · isplitr; · iexact HR
    isplitl [HO]; · iexact HO
    isplitl [T₂] <;> iassumption
  iintro HO
  iapply (runs_sig X K c 3 (dev_sig3 c) _) $$ [HO T₃ M₃]
  · isplitr; · iexact HR
    isplitl [HO]; · iexact HO
    isplitl [T₃] <;> iassumption
  iintro HO
  iapply (runs_sig X K c 4 (dev_sig4 c) _) $$ [HO T₄ M₄]
  · isplitr; · iexact HR
    isplitl [HO]; · iexact HO
    isplitl [T₄] <;> iassumption
  iintro HO
  iapply (runs_bar X K c gs hgs) $$ [HO Hc Ha]
  · isplitr; · iexact HR
    isplitr; · iexact Hlev
    isplitl [HO]; · iexact HO
    isplitl [Hc] <;> iassumption
  iexact Hk

set_option maxHeartbeats 1600000 in
/-- The body of device `c`, from what it starts with to its output complete and all its cells through. -/
theorem runs_flat (f : Out F) (Q : PUnit → sProp 𝕄) :
    iprop(records X K ∗ levAts L lv ∗ ow c (dues c) ∗ linear c ∗ credits c ∗ xPts X c ∗ pts c Finset.univ fullShare f)
      ⊢ iprop(((ow c [] ∗ (bigSep Finset.univ fun k : CK => Zero (F := F) c k) ∗ xPts X c ∗ pts c Finset.univ fullShare (final X c)) -∗ Q ⟨⟩)
          -∗ runs c (flat c) Q) := by
  unfold linear credits flat dues
  rw [windows, own6, cells_split (fun k : CK => (atPos ER (kcell (c, k)) 0 ∅ 0 : sProp 𝕄))]
  iintro ⟨#HR, #Hlev, HO, ⟨⟨AB, AS, AR⟩, TB, TS, TR⟩, ⟨CB, CR⟩, HX, ⟨O₀, O₁, O₂, O₃, O₄, O₅⟩, Hin⟩ Hk
  ihave Hh := (hand c f) $$ Hin
  iapply (runs_signals X K c (sendOrder c) rfl) $$ [HO TB Hh CB AB]
  · isplitr; · iexact HR
    isplitr; · iexact Hlev
    isplitl [HO]; · iexact HO
    isplitl [TB]; · iexact TB
    isplitl [Hh]; · iexact Hh
    isplitl [CB] <;> iassumption
  iintro ⟨HO, ZB, HF⟩
  -- what the sends and the waits need, leg by leg
  ihave HS := (show iprop((bigSep Finset.univ fun g => free (F := F) c g) ∗ (bigSep Finset.univ fun g : Leg => dutyTok ER (kcell (c, some (false, g))) 0 (0 : Fin 5))
      ∗ (bigSep Finset.univ fun g : Leg => dutyTok ER (kcell (due c g)) 0 (0 : Fin 5)) ∗ bigSep Finset.univ fun g : Leg => atPos ER (kcell (c, some (false, g))) 0 ∅ 0)
    ⊢ (bigSep Finset.univ (Snd c) : sProp 𝕄) from Entails.of_eq (by rw [← bigSep_sep', ← bigSep_sep', ← bigSep_sep']; rfl)) $$ [HF TS TR AS]
  · isplitl [HF]; · iexact HF
    isplitl [TS]; · iexact TS
    isplitl [TR] <;> iassumption
  ihave HW := (show iprop((bigSep Finset.univ fun g : Leg => cred (tallyAt (kcell (c, some (true, g))) () (amt g.1)))
      ∗ bigSep Finset.univ fun g : Leg => atPos ER (kcell (c, some (true, g))) 0 ∅ 0)
    ⊢ (bigSep Finset.univ (Wt c true) : sProp 𝕄) from Entails.of_eq (by rw [← bigSep_sep']; rfl)) $$ [CR AR]
  · isplitl [CR] <;> iassumption
  ihave HS' := (Entails.of_eq (legs_send c (Snd (F := F) c))) $$ HS
  ihave HW' := (Entails.of_eq (legs_recv c (Wt (F := F) c true))) $$ HW
  icases HS' with ⟨S₀, S₁, S₂⟩
  icases HW' with ⟨W₀, W₁, W₂⟩
  ihave P₀ := (packs_in (F := F) c 0) $$ [W₀ S₀]
  · isplitl [W₀] <;> iassumption
  ihave P₁ := (packs_in (F := F) c 1) $$ [W₁ S₁]
  · isplitl [W₁] <;> iassumption
  ihave P₂ := (packs_in (F := F) c 2) $$ [W₂ S₂]
  · isplitl [W₂] <;> iassumption
  icases P₀ with ⟨Y₀, A₀, B₀, C₀⟩
  icases P₁ with ⟨Y₁, A₁, B₁, C₁⟩
  icases P₂ with ⟨Y₂, A₂, B₂, C₂⟩
  -- the class half and the quarter, copied and sent
  iapply (runs_copy X c 0 (off_own0 c) rfl f) $$ [HX O₀]
  · isplitl [HX] <;> iassumption
  iintro ⟨HX, O₀⟩
  iapply (runs_copy X c 1 (off_own1 c) rfl f) $$ [HX O₁]
  · isplitl [HX] <;> iassumption
  iintro ⟨HX, O₁⟩
  ihave O₀' := (deal_own0 X c).1 $$ O₀
  icases O₀' with ⟨G₀₀, G₀₁, G₀₂⟩
  ihave O₁' := (deal_own1 X c).1 $$ O₁
  icases O₁' with ⟨G₁₀, G₁₁, G₁₂⟩
  unfold sendOrder yPre
  icases Y₀ with ⟨Y₀, Y₀'⟩
  iapply (runs_ySend X K c 0 _ (dev6 c) (dev7 c)) $$ [HO Y₀ Y₀' G₀₀ G₁₀]
  · isplitr; · iexact HR
    isplitl [HO]; · iexact HO
    isplitl [Y₀]; · iexact Y₀
    isplitl [Y₀']; · iexact Y₀'
    isplitl [G₀₀] <;> iassumption
  iintro ⟨HO, V₀, V₀'⟩
  icases Y₁ with ⟨Y₁, Y₁'⟩
  iapply (runs_ySend X K c 1 _ (dev8 c) (dev9 c)) $$ [HO Y₁ Y₁' G₀₁ G₁₁]
  · isplitr; · iexact HR
    isplitl [HO]; · iexact HO
    isplitl [Y₁]; · iexact Y₁
    isplitl [Y₁']; · iexact Y₁'
    isplitl [G₀₁] <;> iassumption
  iintro ⟨HO, V₁, V₁'⟩
  icases Y₂ with ⟨Y₂, Y₂'⟩
  iapply (runs_ySend X K c 2 _ (dev10 c) (dev11 c)) $$ [HO Y₂ Y₂' G₀₂ G₁₂]
  · isplitr; · iexact HR
    isplitl [HO]; · iexact HO
    isplitl [Y₂]; · iexact Y₂
    isplitl [Y₂']; · iexact Y₂'
    isplitl [G₀₂] <;> iassumption
  iintro ⟨HO, V₂, V₂'⟩
  -- the rest of the own block
  iapply (runs_copy X c 2 (off_own2 c) rfl f) $$ [HX O₂]
  · isplitl [HX] <;> iassumption
  iintro ⟨HX, O₂⟩
  unfold copyQ
  iapply (runs_copy X c 3 (off_own3 c 0) rfl f) $$ [HX O₃]
  · isplitl [HX] <;> iassumption
  iintro ⟨HX, O₃⟩
  iapply (runs_copy X c 4 (off_own3 c 1) rfl f) $$ [HX O₄]
  · isplitl [HX] <;> iassumption
  iintro ⟨HX, O₄⟩
  iapply (runs_copy X c 5 (off_own3 c 2) rfl f) $$ [HX O₅]
  · isplitl [HX] <;> iassumption
  iintro ⟨HX, O₅⟩
  -- the first loop
  iapply (runs_turnA X K c 0 [(2, ord c 1), (4, ord c 1), (3, ord c 1), (5, ord c 1), (2, ord c 2), (4, ord c 2), (3, ord c 2), (5, ord c 2),
    (7, ord c 0), (6, ord c 0), (7, ord c 1), (6, ord c 1), (7, ord c 2), (6, ord c 2)] rfl (dev12 c) (dev13 c) (dev14 c) (dev15 c)) $$ [HO A₀]
  · isplitr; · iexact HR
    isplitr; · iexact Hlev
    isplitl [HO] <;> iassumption
  iintro ⟨HO, A₀⟩
  iapply (runs_turnA X K c 1 [(2, ord c 2), (4, ord c 2), (3, ord c 2), (5, ord c 2),
    (7, ord c 0), (6, ord c 0), (7, ord c 1), (6, ord c 1), (7, ord c 2), (6, ord c 2)] rfl (dev16 c) (dev17 c) (dev18 c) (dev19 c)) $$ [HO A₁]
  · isplitr; · iexact HR
    isplitr; · iexact Hlev
    isplitl [HO] <;> iassumption
  iintro ⟨HO, A₁⟩
  iapply (runs_turnA X K c 2 [(7, ord c 0), (6, ord c 0), (7, ord c 1), (6, ord c 1), (7, ord c 2), (6, ord c 2)] rfl (dev20 c) (dev21 c) (dev22 c) (dev23 c)) $$ [HO A₂]
  · isplitr; · iexact HR
    isplitr; · iexact Hlev
    isplitl [HO] <;> iassumption
  iintro ⟨HO, A₂⟩
  -- the second
  iapply (runs_turnB X K c 0 [(7, ord c 1), (6, ord c 1), (7, ord c 2), (6, ord c 2)] rfl (dev24 c) (dev25 c)) $$ [HO B₀]
  · isplitr; · iexact HR
    isplitr; · iexact Hlev
    isplitl [HO] <;> iassumption
  iintro ⟨HO, B₀⟩
  iapply (runs_turnB X K c 1 [(7, ord c 2), (6, ord c 2)] rfl (dev26 c) (dev27 c)) $$ [HO B₁]
  · isplitr; · iexact HR
    isplitr; · iexact Hlev
    isplitl [HO] <;> iassumption
  iintro ⟨HO, B₁⟩
  iapply (runs_turnB X K c 2 [] rfl (dev28 c) (dev29 c)) $$ [HO B₂]
  · isplitr; · iexact HR
    isplitr; · iexact Hlev
    isplitl [HO] <;> iassumption
  iintro ⟨HO, B₂⟩
  simp only [List.map_nil]
  -- the third
  iapply (runs_turnC X K c 0) $$ [HO C₀]
  · isplitr; · iexact HR
    isplitr; · iexact Hlev
    isplitl [HO] <;> iassumption
  iintro ⟨HO, C₀⟩
  iapply (runs_turnC X K c 1) $$ [HO C₁]
  · isplitr; · iexact HR
    isplitr; · iexact Hlev
    isplitl [HO] <;> iassumption
  iintro ⟨HO, C₁⟩
  iapply (runs_turnC X K c 2) $$ [HO C₂]
  · isplitr; · iexact HR
    isplitr; · iexact Hlev
    isplitl [HO] <;> iassumption
  iintro ⟨HO, C₂⟩
  -- the waits for what was sent
  iapply (runs_yDone X K c 0) $$ [HO V₀ V₀']
  · isplitr; · iexact HR
    isplitr; · iexact Hlev
    isplitl [HO]; · iexact HO
    isplitl [V₀] <;> iassumption
  iintro ⟨HO, V₀, V₀'⟩
  iapply (runs_yDone X K c 1) $$ [HO V₁ V₁']
  · isplitr; · iexact HR
    isplitr; · iexact Hlev
    isplitl [HO]; · iexact HO
    isplitl [V₁] <;> iassumption
  iintro ⟨HO, V₁, V₁'⟩
  iapply (runs_yDone X K c 2) $$ [HO V₂ V₂']
  · isplitr; · iexact HR
    isplitr; · iexact Hlev
    isplitl [HO]; · iexact HO
    isplitl [V₂] <;> iassumption
  iintro ⟨HO, V₂, V₂'⟩
  ihave M₀ := (packs_mid X c (ord c 0)) $$ [A₀ B₀]
  · isplitl [A₀] <;> iassumption
  ihave M₁ := (packs_mid X c (ord c 1)) $$ [A₁ B₁]
  · isplitl [A₁] <;> iassumption
  ihave M₂ := (packs_mid X c (ord c 2)) $$ [A₂ B₂]
  · isplitl [A₂] <;> iassumption
  icases M₀ with ⟨D₀, M₀⟩
  icases M₁ with ⟨D₁, M₁⟩
  icases M₂ with ⟨D₂, M₂⟩
  iapply (runs_turnD X K c 0) $$ [HO D₀]
  · isplitr; · iexact HR
    isplitr; · iexact Hlev
    isplitl [HO] <;> iassumption
  iintro ⟨HO, D₀⟩
  iapply (runs_turnD X K c 1) $$ [HO D₁]
  · isplitr; · iexact HR
    isplitr; · iexact Hlev
    isplitl [HO] <;> iassumption
  iintro ⟨HO, D₁⟩
  iapply (runs_turnD X K c 2) $$ [HO D₂]
  · isplitr; · iexact HR
    isplitr; · iexact Hlev
    isplitl [HO] <;> iassumption
  iintro ⟨HO, D₂⟩
  -- put together
  ihave E₀ := (packs_out X c 0) $$ [M₀ C₀ D₀]
  · isplitl [M₀]; · iexact M₀
    isplitl [C₀] <;> iassumption
  ihave E₁ := (packs_out X c 1) $$ [M₁ C₁ D₁]
  · isplitl [M₁]; · iexact M₁
    isplitl [C₁] <;> iassumption
  ihave E₂ := (packs_out X c 2) $$ [M₂ C₂ D₂]
  · isplitl [M₂]; · iexact M₂
    isplitl [C₂] <;> iassumption
  icases E₀ with ⟨E₀, U₀⟩
  icases E₁ with ⟨E₁, U₁⟩
  icases E₂ with ⟨E₂, U₂⟩
  ihave HE := (Entails.of_eq (legs_recv c (Done X c true)).symm) $$ [E₀ E₁ E₂]
  · isplitl [E₀]; · iexact E₀
    isplitl [E₁] <;> iassumption
  ihave HE' := (show bigSep Finset.univ (Done X c true) ⊢ iprop((bigSep Finset.univ fun g : Leg => Zero (F := F) c (some (true, g)))
      ∗ bigSep Finset.univ fun g : Leg => pts c (rows (rlo c g) (rln g.1)) fullShare (final X c)) from Entails.of_eq (by
        rw [← bigSep_sep']; exact bigSep_congr fun g _ => by unfold Done; rw [came_eq])) $$ HE
  icases HE' with ⟨ZR, Hin⟩
  unfold Done
  icases V₀ with ⟨Z₀, G₀₀⟩
  icases V₀' with ⟨Z₀', G₁₀⟩
  icases V₁ with ⟨Z₁, G₀₁⟩
  icases V₁' with ⟨Z₁', G₁₁⟩
  icases V₂ with ⟨Z₂, G₀₂⟩
  icases V₂' with ⟨Z₂', G₁₂⟩
  ihave O₀ := (deal_own0 X c).2 $$ [G₀₀ G₀₁ G₀₂]
  · isplitl [G₀₀]; · iexact G₀₀
    isplitl [G₀₁] <;> iassumption
  ihave O₁ := (deal_own1 X c).2 $$ [G₁₀ G₁₁ G₁₂]
  · isplitl [G₁₀]; · iexact G₁₀
    isplitl [G₁₁] <;> iassumption
  ihave ZS := (Entails.of_eq (legs_send c (fun g => Zero (F := F) c (some (false, g)))).symm) $$ [Z₀ Z₀' Z₁ Z₁' Z₂ Z₂' U₀ U₁ U₂]
  · unfold dZero
    isplitl [Z₀ Z₀' U₀]
    · isplitl [Z₀]; · iexact Z₀
      isplitl [Z₀'] <;> iassumption
    isplitl [Z₁ Z₁' U₁]
    · isplitl [Z₁]; · iexact Z₁
      isplitl [Z₁'] <;> iassumption
    isplitl [Z₂]; · iexact Z₂
    isplitl [Z₂'] <;> iassumption
  unfold runs; rw [wp_ret]; imodintro
  iapply Hk
  isplitl [HO]; · iexact HO
  isplitl [ZB ZS ZR]
  · rw [cells_split (fun k : CK => Zero (F := F) c k)]
    isplitl [ZB]; · iexact ZB
    isplitl [ZS] <;> iassumption
  isplitl [HX]; · iexact HX
  rw [windows, own6]
  isplitr [Hin]
  · isplitl [O₀]; · iexact O₀
    isplitl [O₁]; · iexact O₁
    isplitl [O₂]; · iexact O₂
    isplitl [O₃]; · iexact O₃
    isplitl [O₄] <;> iassumption
  iexact Hin

end

end Cert.Gather

end
-- ==== Proof.Credit.lean ====
/-
# The credit at the launch

What all devices together owe a cell is what its owner waits for: five units at a barrier, one copy's at an arrival.
-/
module

public import proofs.«01_k».proof.Proof.Body

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- What a device owes all in all. -/
def O₀ (c : Dev nD) : CellTallies nD τ sig Unit := sumL (dues c)

theorem sumL_apply (l : List (Dev nD × CK)) (q : Dev nD × CK) : sumL l (kcell q) () = (l.map fun p => if p = q then camt q.2 else 0).sum := by
  induction l with
  | nil => rfl
  | cons p l ih =>
    rw [sumL_cons, Pi.add_apply, Finsupp.add_apply, ih, List.map_cons, List.sum_cons, add_comm]
    congr 1
    unfold tally
    rw [tallyAt_apply]
    by_cases h : p = q
    · subst h; rw [if_pos ⟨rfl, rfl⟩, if_pos rfl]
    · rw [if_neg (fun h' => h (kcell_injective h'.1).symm), if_neg h]

theorem O₀_apply (d : Dev nD) (q : Dev nD × CK) :
    O₀ d (kcell q) () = (∑ k : Fin 5, if dueSig d k = q then camt q.2 else 0) + ∑ g : Leg, if due d g = q then camt q.2 else 0 := by
  have huniv : (sendOrder d).toFinset = Finset.univ := Finset.eq_univ_iff_forall.mpr fun g => List.mem_toFinset.mpr (sendOrder_mem d g)
  have h1 : ∀ φ : Dev nD × CK → ℕ, ([dueSig d 0, dueSig d 1, dueSig d 2, dueSig d 3, dueSig d 4].map φ).sum = ∑ k : Fin 5, φ (dueSig d k) := fun φ => by
    rw [Fin.sum_univ_five]
    simp only [List.map_cons, List.map_nil, List.sum_cons, List.sum_nil, add_zero, add_assoc]
  have h2 : ∀ φ : Dev nD × CK → ℕ, (((sendOrder d).map (due d)).map φ).sum = ∑ g : Leg, φ (due d g) := fun φ => by
    rw [← huniv, List.sum_toFinset _ (sendOrder_nodup d), List.map_map]; rfl
  unfold O₀ dues
  rw [sumL_apply, List.map_append, List.sum_append, h1, h2]

/-- Five signals reach each barrier. -/
theorem total_bar (c : Dev nD) : (∑ d : Dev nD, O₀ d (kcell (c, none)) ()) = 5 := by
  have h1 : ∀ d : Dev nD, O₀ d (kcell (c, none)) () = ∑ k : Fin 5, if (sigEquiv (d, k)).1 = c then 1 else 0 := fun d => by
    rw [O₀_apply, Finset.sum_eq_zero (s := Finset.univ) (f := fun g : Leg => if due d g = (c, none) then camt (none : CK) else 0)
      (fun g _ => if_neg fun h => by cases congrArg Prod.snd h), add_zero]
    refine Finset.sum_congr rfl fun k _ => ?_
    by_cases h : sigTo d k = c
    · rw [if_pos (show dueSig d k = (c, none) from Prod.ext h rfl), if_pos (show (sigEquiv (d, k)).1 = c from h)]; rfl
    · have h' : ¬dueSig d k = (c, none) := fun h' => h (congrArg Prod.fst h')
      rw [if_neg h', if_neg (show ¬(sigEquiv (d, k)).1 = c from h)]
  rw [Finset.sum_congr rfl fun d _ => h1 d, ← Fintype.sum_prod_type' (fun (d : Dev nD) (k : Fin 5) => if (sigEquiv (d, k)).1 = c then 1 else 0),
    Equiv.sum_comp sigEquiv (fun p : Dev nD × Fin 5 => if p.1 = c then 1 else 0), Fintype.sum_prod_type, Finset.sum_eq_single c
      (fun d _ h => Finset.sum_eq_zero fun k _ => if_neg h) (fun h => absurd (Finset.mem_univ _) h)]
  simp only [if_true]; rfl

/-- One copy arrives at each slot of each channel. -/
theorem total_recv (c : Dev nD) (g : Leg) : (∑ d : Dev nD, O₀ d (kcell (c, some (true, g))) ()) = amt g.1 := by
  have h1 : ∀ d : Dev nD, O₀ d (kcell (c, some (true, g))) () = ∑ h : Leg, if legEquiv (d, h) = (c, g) then amt g.1 else 0 := fun d => by
    rw [O₀_apply, Finset.sum_eq_zero (s := Finset.univ) (f := fun k : Fin 5 => if dueSig d k = (c, some (true, g)) then camt (some (true, g)) else 0)
      (fun k _ => if_neg fun h => by cases congrArg Prod.snd h), zero_add]
    refine Finset.sum_congr rfl fun h _ => ?_
    by_cases e : legEquiv (d, h) = (c, g)
    · have e' : due d h = (c, some (true, g)) := by
        have e1 : tgt d h = c := congrArg Prod.fst e
        have e2 : (h.1, rslot d h) = g := congrArg Prod.snd e
        unfold due; rw [e1, e2]
      rw [if_pos e', if_pos e]; rfl
    · have e' : ¬due d h = (c, some (true, g)) := fun h' => by
        have e1 : tgt d h = c := congrArg Prod.fst h'
        have e2 : some (true, (h.1, rslot d h)) = some (true, g) := congrArg Prod.snd h'
        have e3 : (h.1, rslot d h) = g := congrArg Prod.snd (Option.some.inj e2)
        exact e (show (tgt d h, (h.1, rslot d h)) = (c, g) by rw [e1, e3])
      rw [if_neg e', if_neg e]
  rw [Finset.sum_congr rfl fun d _ => h1 d, ← Fintype.sum_prod_type' (fun (d : Dev nD) (h : Leg) => if legEquiv (d, h) = (c, g) then amt g.1 else 0),
    Equiv.sum_comp legEquiv (fun p : Dev nD × Leg => if p = (c, g) then amt g.1 else 0), Finset.sum_ite_eq' Finset.univ (c, g) fun _ => amt g.1,
    if_pos (Finset.mem_univ _)]

/-- So a cell's credit at the launch is that much. -/
theorem credit_at (q : Dev nD × CK) (n : ℕ) (h : (∑ d : Dev nD, O₀ d (kcell q) ()) = n) :
    tallyOn (kcell q) (launchCredit (Pipeline.owing O₀) 0 (kcell q)) = (tallyAt (kcell q) () n : CellTallies nD τ sig Unit) := by
  unfold tallyAt
  refine congrArg _ (Finsupp.ext fun u => ?_)
  cases u
  rw [Pipeline.launchCredit_owing, Finsupp.single_eq_same, h]

/-- The cells that a device waits for others at: its barrier and its arrivals. -/
def inCell (o : Option Leg) : CK := o.map fun g => (true, g)

theorem inCell_injective : Function.Injective inCell := by
  rintro (_ | g) (_ | h) e
  · rfl
  · cases e
  · cases e
  · exact congrArg some (congrArg Prod.snd (Option.some.inj e))

/-- A device's launch credit has the credit of all its waits. -/
theorem credits_of_launch (c : Dev nD) : (Pipeline.launchCred O₀ c : sProp 𝕄) ⊢ credits c := by
  have hinj : Set.InjOn (fun o => csem (inCell o)) (Finset.univ : Finset (Option Leg)) := fun a _ b _ e => inCell_injective (csem_injective e)
  unfold Pipeline.launchCred credits
  refine BIBase.Entails.trans (bigSep_subset (Finset.subset_univ (Finset.univ.image fun o => csem (inCell o)))) (Entails.of_eq ?_)
  rw [bigSep_image_of_injOn hinj, option_split]
  congr 1
  · rw [show ((c.tc : Thread nD τ), csem (inCell none)) = kcell (c, none) from rfl, credit_at (c, none) 5 (total_bar c)]
  · refine bigSep_congr fun g _ => ?_
    rw [show ((c.tc : Thread nD τ), csem (inCell (some g))) = kcell (c, some (true, g)) from rfl, credit_at (c, some (true, g)) _ (total_recv c g)]

/-! ## Waiting for the staging -/

theorem lv_other {s : SemLoc sig} (h : ∀ k, csem k ≠ s) (c : Dev nD) : lv ((c : Thread nD τ), s) () = 0 := by
  have : ckOf s = none := by unfold ckOf; exact dif_neg fun ⟨k, hk⟩ => h k hk
  show (ckOf s).elim 0 lvK = 0
  rw [this]; rfl

/-- At any other semaphore a device may wait whatever it owes. -/
theorem mayWait_other (c : Dev nD) {s : SemLoc sig} (h : ∀ k, csem k ≠ s) (O : CellTallies nD τ sig Unit) (hO : O = O₀ c ∨ O = 0) :
    (levAts L lv : sProp 𝕄) ⊢ MayWait (c : Thread nD τ) s () O := by
  rcases hO with rfl | rfl
  · exact mayWait_sumL c s 0 (Nat.le_of_eq (lv_other h c)) (dues c) (dues_pos c)
  · rw [MayWait_zero]; iintro -; iempintro

end Cert.Gather

end
-- ==== Proof.Launch.lean ====
/-
# The launch

How the cells are set up and their tokens dealt to the devices that pay with them; the pipeline's side conditions; the run of
all devices.
-/
module

public import proofs.«01_k».proof.Proof.Credit
public import proofs.«01_k».proof.Proof.Gen.KernelIdeal.Launch
public import Idealize.ShloMosaic.Lib.Pipeline.Launch
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch: any contents, all semaphores at zero. -/
def s₀ : MemSt nD τ sig (Elt F) := ⟨m, fun _ => 0, ρ⟩

/-- A device's block, as its argument array holds it. -/
def xin (c : Dev nD) : Blk F := (win0_0.blk (0 : Fin 1)).view.read (Elt F) ((s₀ m ρ).mem ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The DMA semaphores that are the kernel's own. -/
abbrev osem (p : Bool × Leg) : SemLoc sig := .dma (dmaNo p.1 p.2)

theorem ownSemFacts : Pipeline.OwnSemFacts cfg0.spec osem := by decide +kernel

/-! ## The body, as the pipeline has it -/

/-- What the launch makes for device `c`: everybody's records, and what is its own. -/
def G' (c : Dev nD) : sProp 𝕄 := iprop(∃ K, records (xin m ρ) K ∗ linear c)

def start (c : Dev nD) : sProp 𝕄 := iprop(G' m ρ c ∗ credits c ∗ levAts L lv)
def zeros (c : Dev nD) : sProp 𝕄 := bigSep Finset.univ fun k : CK => Zero (F := F) c k

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => final (xin m ρ) c
  Φ t := match t with
    | ⟨0, _⟩ => start m ρ c
    | ⟨_ + 1, _⟩ => zeros c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
/-- A whole staging buffer held, at contents given. -/
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev held (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def before (c : Dev nD) : sProp 𝕄 :=
  iprop(start m ρ c ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))

def after (c : Dev nD) : sProp 𝕄 :=
  iprop(zeros c ∗ (dats m ρ 0 c).owesAt () t₀.succ ∗ held c cc0_stg0_0 (xin m ρ c) ∗ held c cc0_stg1_0 (final (xin m ρ) c))

/-- The body of device `c`, from what the pipeline gives it to what it takes back. -/
theorem runs_body (c : Dev nD) : before m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9
      cc0_scratch10 cc0_scratch11 cc0_scratch12 cc0_scratch13) fun _ => after m ρ c := by
  rw [body_eq]
  simp only [wp_deviceId]
  unfold before start G'
  iintro ⟨⟨⟨%K, #HR, Hlin⟩, Hcr, #Hlev⟩, Ho, ⟨%d0, %g0, %hg0, Hx⟩, ⟨%d1, %g1, %hg1, Hout⟩⟩
  have hx : g0 = xin m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = sumL (dues c) from rfl]
  iapply (runs_flat (xin m ρ) K c g1 fun _ => after m ρ c) $$ [HO Hlin Hcr Hx Hout]
  · isplitr; · iexact HR
    isplitr; · iexact Hlev
    isplitl [HO]; · unfold ow; iexists W; iexact HO
    isplitl [Hlin]; · iexact Hlin
    isplitl [Hcr]; · iexact Hcr
    isplitl [Hx]; · unfold xPts; iexact Hx
    unfold pts; iexact Hout
  iintro ⟨HO, HZ, Hx, Hout⟩
  unfold after zeros Dat.owesAt Pipeline.owesWithin ow xPts pts
  icases HO with ⟨%W', HO⟩
  rw [show (dats m ρ 0 c).owed t₀.succ = sumL [] from rfl]
  isplitl [HZ]; · iexact HZ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 16000 in
theorem body_obligation (c : Dev nD) : BodyObligation (dats (F := F) m ρ 0 c) (defs₀ (F := F)) 𝒱₀ () Set.univ := fun t => by
  rw [fin_N t, bigSep_W0, bigSep_W0]
  simp only [owns_whole]
  show before m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9
      cc0_scratch10 cc0_scratch11 cc0_scratch12 cc0_scratch13) fun _ => after m ρ c
  exact runs_body m ρ c

/-! ## The cells set up -/

/-- All cells, and the tokens of all duties. -/
def cells : Finset (GSem nD τ sig) := Finset.univ.map ⟨kcell, kcell_injective⟩

def tokOf (p : Dev nD × (Fin 5 ⊕ (Bool × Leg))) : GSem nD τ sig × ℕ × Fin 5 :=
  (kcell (p.1, p.2.elim (fun _ => none) some), 0, p.2.elim id fun _ => 0)

theorem tokOf_injective : Function.Injective tokOf := by
  rintro ⟨c, j⟩ ⟨c', j'⟩ h
  have h1 := kcell_injective (congrArg Prod.fst h)
  have h2 : j.elim id (fun _ => (0 : Fin 5)) = j'.elim id fun _ => 0 := congrArg (fun x => x.2.2) h
  have hc : c = c' := congrArg Prod.fst h1
  have hk : j.elim (fun _ => (none : CK)) some = j'.elim (fun _ => none) some := congrArg Prod.snd h1
  subst hc
  rcases j with k | p <;> rcases j' with k' | p'
  · exact congrArg (fun k => (c, Sum.inl k)) h2
  · cases hk
  · cases hk
  · exact congrArg (fun p => (c, Sum.inr p)) (Option.some.inj hk)

def tokens : Finset (GSem nD τ sig × ℕ × Fin 5) := Finset.univ.map ⟨tokOf, tokOf_injective⟩

def u₀ : UU :=
  (initOf (Pipeline.cells cfgs cellOf_inj) (Pipeline.launchToks cfgs cellOf_inj), initOf cells tokens)

/-- The tokens of the duties of device `c`'s cells. -/
def toks (c : Dev nD) : sProp 𝕄 :=
  iprop((bigSep Finset.univ fun k : Fin 5 => dutyTok ER (kcell (c, none)) 0 k)
    ∗ (bigSep Finset.univ fun g : Leg => dutyTok ER (kcell (c, some (false, g))) 0 (0 : Fin 5))
    ∗ bigSep Finset.univ fun g : Leg => dutyTok ER (kcell (c, some (true, g))) 0 (0 : Fin 5))

/-- What device `c` is dealt before its cells are set up. -/
def G (c : Dev nD) : sProp 𝕄 :=
  iprop((bigSep Finset.univ fun k : CK => roundState ER (Rd (xin m ρ)) (kcell (c, k)) 0)
    ∗ ((bigSep Finset.univ fun k : CK => atPos ER (kcell (c, k)) 0 ∅ 0) ∗ bigSep Finset.univ fun k : CK => reached ER (kcell (c, k)) 0) ∗ toks c)

omit [FloatOps F] in
theorem cells_eq (Φ : GSem nD τ sig → sProp 𝕄) : bigSep cells Φ = bigSep Finset.univ fun c : Dev nD => bigSep Finset.univ fun k : CK => Φ (kcell (c, k)) := by
  unfold cells; rw [bigSep_map, bigSep_univ_prod]; rfl

omit [FloatOps F] in
theorem tokens_eq : bigSep tokens (fun x => (dutyTok ER x.1 x.2.1 x.2.2 : sProp 𝕄)) = bigSep Finset.univ fun c : Dev nD => toks c := by
  unfold tokens; rw [bigSep_map, bigSep_univ_prod]
  refine bigSep_congr fun c _ => ?_
  rw [bigSep_univ_sum, bigSep_univ_prod, bigSep_univ_eq_bigSepL [false, true] (by decide) (by decide), bigSepL_cons_cons, bigSepL_singleton]
  rfl

omit [FloatOps F] in
/-- The launch's own state is enough to deal everybody what is theirs. -/
theorem deal : BI.own (ER (initOf cells tokens)) ⊢ (|==> bigSep Finset.univ (G m ρ) : sProp 𝕄) := by
  iintro HX
  imod (Rounds.fund ER (Rd (xin m ρ)) cells tokens) $$ HX with ⟨Hst, Hr, Hat, Htok⟩
  imodintro
  ihave Hst' := (Entails.of_eq (cells_eq fun g => roundState ER (Rd (xin m ρ)) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq tokens_eq) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = Zero c none := by
  unfold unscopedSems0; rw [bigSep_eq_bigSepL_of_eq [SemLoc.reg barS] (by decide) (by decide)]; rfl

omit [FloatOps F] in
/-- A device's semaphores at zero are its cells' and no others. -/
theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros; rw [unscopedSems0_eq, option_split]; rfl

omit [FloatOps F] in
/-- Device `c` puts each of its cells under an invariant. -/
theorem set_up (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd (xin m ρ)) κ (kcell (c, k))))
          ∗ ((bigSep Finset.univ fun k : CK => atPos ER (kcell (c, k)) 0 ∅ 0) ∗ bigSep Finset.univ fun k : CK => reached ER (kcell (c, k)) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop(zeros c ∗ bigSep Finset.univ fun k : CK => roundState ER (Rd (xin m ρ)) (kcell (c, k)) 0)
      ⊢ (|={Set.univ}=> bigSep Finset.univ fun k : CK => iprop(∃ κ : ℕ, cellInv ER (Rd (xin m ρ)) κ (kcell (c, k))) : sProp 𝕄) from by
        unfold zeros Zero
        rw [← bigSep_sep']
        exact (bigSep_mono fun k _ => (Rounds.body_intro ER (Rd (xin m ρ)) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- The tokens dealt to those who pay with them: a signal's to its sender, an arrival's to the copy's. -/
theorem toks_to_payers : (bigSep Finset.univ fun c : Dev nD => (toks c : sProp 𝕄))
    = bigSep Finset.univ fun c : Dev nD => iprop((bigSep Finset.univ fun k : Fin 5 => dutyTok ER (kcell (dueSig c k)) 0 (sigDuty k))
        ∗ (bigSep Finset.univ fun g : Leg => dutyTok ER (kcell (c, some (false, g))) 0 (0 : Fin 5))
        ∗ bigSep Finset.univ fun g : Leg => dutyTok ER (kcell (due c g)) 0 (0 : Fin 5)) := by
  unfold toks
  rw [bigSep_sep', bigSep_sep', bigSep_sep', bigSep_sep']
  congr 1
  · rw [← bigSep_univ_prod (fun p : Dev nD × Fin 5 => (dutyTok ER (kcell (p.1, none)) 0 p.2 : sProp 𝕄)), bigSep_univ_equiv sigEquiv, bigSep_univ_prod]
    rfl
  · congr 1
    rw [← bigSep_univ_prod (fun p : Dev nD × Leg => (dutyTok ER (kcell (p.1, some (true, p.2))) 0 (0 : Fin 5) : sProp 𝕄)), bigSep_univ_equiv legEquiv, bigSep_univ_prod]
    rfl

omit [FloatOps F] in
/-- From every device's cells set up, everybody's records and each device's own. -/
theorem regroup :
    (bigSep Finset.univ fun c : Dev nD => iprop((bigSep Finset.univ fun k : CK => iprop(∃ κ : ℕ, cellInv ER (Rd (xin m ρ)) κ (kcell (c, k))))
          ∗ ((bigSep Finset.univ fun k : CK => atPos ER (kcell (c, k)) 0 ∅ 0) ∗ bigSep Finset.univ fun k : CK => reached ER (kcell (c, k)) 0) ∗ toks c) : sProp 𝕄)
      ⊢ bigSep Finset.univ (G' m ρ) := by
  rw [bigSep_sep', bigSep_sep', bigSep_sep', toks_to_payers,
    ← bigSep_univ_prod (fun ck : Dev nD × CK => iprop(∃ κ : ℕ, cellInv ER (Rd (xin m ρ)) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (xin m ρ)) κ (kcell ck) : sProp 𝕄))) $$ HI
  icases HK with ⟨%K, #HI⟩
  have hone : ∀ c : Dev nD, iprop(records (xin m ρ) K ∗ linear c) ⊢ G' m ρ c := fun c => by
    unfold G'; exact BIClass.exists_intro (Φ := fun K => iprop(records (xin m ρ) K ∗ linear c)) K
  have hall : iprop(records (xin m ρ) K ∗ bigSep Finset.univ fun c : Dev nD => (linear c : sProp 𝕄)) ⊢ bigSep Finset.univ (G' m ρ) :=
    (sep_mono_left (BI.bigSep_of_persistent Finset.univ (records (xin m ρ) K))).trans (by rw [← bigSep_sep']; exact bigSep_mono fun c _ => hone c)
  have hlin : iprop((bigSep Finset.univ fun c : Dev nD => bigSep Finset.univ fun k : CK => atPos ER (kcell (c, k)) 0 ∅ 0)
      ∗ bigSep Finset.univ fun c : Dev nD => iprop((bigSep Finset.univ fun k : Fin 5 => dutyTok ER (kcell (dueSig c k)) 0 (sigDuty k))
        ∗ (bigSep Finset.univ fun g : Leg => dutyTok ER (kcell (c, some (false, g))) 0 (0 : Fin 5))
        ∗ bigSep Finset.univ fun g : Leg => dutyTok ER (kcell (due c g)) 0 (0 : Fin 5)))
      ⊢ (bigSep Finset.univ fun c : Dev nD => linear c : sProp 𝕄) := Entails.of_eq (by rw [← bigSep_sep']; rfl)
  iapply hall
  isplitr
  · unfold records; isplitl; · iexact HI
    iexact HR
  · iapply hlin
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => set_up m ρ c).trans (bigSep_fupd _ _)).trans (BI.fupd_mono (regroup m ρ))

/-! ## The pipeline's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_of_launch (F := F) c) $$ Hcr
  imodintro
  unfold start
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, sems0_eq]
  iintro ⟨HB, HD⟩
  isplitl [HB]; · iexact HB
  isplitl [HD]; · iexact HD
  iempintro

theorem share_full (c : Dev nD) (w : Fin cfg0.W) : (dats m ρ 0 c).share w = fullShare := by unfold Dat.share; split <;> rfl

theorem stage_other : ∀ (w : Fin cfg0.W) (s : Fin (cfg0.spec w).nbuf) (k : CK), csem k ≠ .dma ((cfg0.spec w).sem s) := by
  intro w s k
  cases k with
  | none => exact fun h => by cases h
  | some p => exact ownSemFacts.disj p w s

theorem waits (c : Dev nD) : (levAts L lv : sProp 𝕄) ⊢ Pipeline.cellsWaits cfgs (dats m ρ) () 0 c :=
  Pipeline.cellsWaits_intro cfgs (dats m ρ) () 0 c fun w s t =>
    mayWait_other c (stage_other w s) _ (by
      rcases t with ⟨_ | _, ht⟩
      · exact Or.inl rfl
      · exact Or.inr rfl)

/-! ## The run -/

/-- The arrays' contents at the end. -/
def endA (c : Dev nD) (w : Fin cfg0.W) : Buf (Elt F) ((cfg0.win w).arr.view.loc (c : Thread nD τ)) := (dats m ρ 0 c).arrAt w cfg0.N

set_option maxRecDepth 8000 in
/-- For any float values, from any memory with all semaphores at zero, every fair run of the devices ends, each device's
    arrays at `endA` and all semaphores at zero. -/
theorem run_main : θ_run defs (onTc (τ := τ) (main (F := F))) (s₀ m ρ)
    (fun r => (∀ c : Dev nD, ∀ w : Fin cfg0.W, r.2.mem ((cfg0.win w).arr.view.loc (c : Thread nD τ)) = endA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
# The values at the end

The argument of every device is as it was. The result of every device is the whole array of which the arguments are the
blocks.
-/
module

public import proofs.«01_k».proof.Proof.Launch
public import proofs.«01_k».proof.Proof.Gen.KernelIdeal.Points
public import Idealize.ShloMosaic.Lib.Layout
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The pipeline's blocks are whole arrays -/

omit [FloatOps F] in
/-- The one block of the argument is all of it. -/
theorem xin_eq (c : Dev nD) : xin m ρ c = m ((c : Thread nD τ).loc main_arg0) := by
  funext i
  show m ((c : Thread nD τ).loc main_arg0) ((win0_0.rect (0 : Fin 1)).idx i) = _
  refine congrArg (m ((c : Thread nD τ).loc main_arg0)) (funext fun a => Fin.ext ?_)
  show 0 * win0_0.size a + 1 * (i a).val = (i a).val
  omega

/-- What is written back is what the body left. -/
theorem flushed_eq (c : Dev nD) (t : Fin cfg0.N) :
    (dats m ρ 0 c).flushed 1 t = ((cfg0.win 1).blk t).view.read (Elt F) (final (xin m ρ) c) := by
  funext i
  show final (xin m ρ) c _ = final (xin m ρ) c _
  refine congrArg (final (xin m ρ) c) (funext fun a => Fin.ext ?_)
  show (i a).val = 0 * win0_1.size a + 1 * (i a).val
  omega

/-- The write-back reaches every element. -/
theorem cover (i : S8192x512.Idx) : ∃ t : Fin cfg0.N, (cfg0.win 1).flush t = true ∧ i ∈ ((cfg0.win 1).blk t).view.set := by
  refine ⟨t₀, flush0_1 _, ?_⟩
  show i ∈ ((View.whole main_v1).slice (win0_1.rect t₀)).set
  rw [View.set_slice_whole, Rect.mem_set_unit]
  intro a
  show 0 * win0_1.size a ≤ (i a).val ∧ (i a).val < 0 * win0_1.size a + S8192x512.size a
  have := (i a).isLt
  omega

/-- A device's result at the end is its `final`. -/
theorem endA_out (c : Dev nD) : endA m ρ c 1 = final (xin m ρ) c :=
  (dats m ρ 0 c).arrAt_eq_of_cover 1 (final (xin m ρ) c) (fun t _ => flushed_eq m ρ c t) cover

/-- A device's argument at the end is as it was. -/
theorem endA_in (c : Dev nD) : endA m ρ c 0 = m ((c : Thread nD τ).loc main_arg0) := (dats m ρ 0 c).arrAt_in (0 : Fin 2) rfl _

/-- For any float values, from any memory with all semaphores at zero, every fair run of the devices ends: each result at
    its device's `final`, each argument as it was, all semaphores at zero. -/
theorem run_values : θ_run defs (onTc (τ := τ) (main (F := F))) ⟨m, fun _ => 0, ρ⟩
    (fun r => (∀ c : Dev nD, r.2.mem ((c.tc : Thread nD τ).loc main_v1) = final (xin m ρ) c
      ∧ r.2.mem ((c.tc : Thread nD τ).loc main_arg0) = m ((c.tc : Thread nD τ).loc main_arg0)) ∧ r.2.sem = fun _ => 0) :=
  (θ_run defs _ _).mono (fun _ h => ⟨fun c => ⟨(h.1 c 1).trans (endA_out m ρ c), (h.1 c 0).trans (endA_in m ρ c)⟩, h.2⟩)
    (run_main m ρ)

/-- The same without the results. -/
theorem run_kept : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_values m ρ)

/-! ## The blocks together are the whole array -/

/-- A device's block of the rows is that of its `y`; the columns are not cut. -/
theorem block_rows : ∀ c : Dev nD, Layout.meshLin [2, 4, 4] c.val [1] = cy c := by decide
theorem block_cols : ∀ c : Dev nD, Layout.meshLin [2, 4, 4] c.val [] = 0 := fun _ => rfl

omit [FloatOps F] in
/-- If every device's argument is its block of the array `V`, every device's `final` is `V`. -/
theorem final_whole (X : Dev nD → Blk F) (V : Out F)
    (h : ∀ c, X c = Layout.blockN ⟨2, ![2048, 512]⟩ ⟨2, ![8192, 512]⟩ (Layout.meshBlock [2, 4, 4] ![[1], []] c) V) (c : Dev nD) :
    final X c = V := by
  funext i
  unfold final
  rw [h]
  show V _ = V i
  refine congrArg V (funext fun a => Fin.ext ?_)
  have hb := block_rows (orig c ((i 0).val / 32))
  have hc := block_cols (orig c ((i 0).val / 32))
  have hy := cy_orig c ⟨(i 0).val / 32, unit_lt i⟩
  dsimp only at hy
  revert a
  refine Fin.forall_fin_two.mpr ⟨?_, ?_⟩
  · show Layout.meshLin [2, 4, 4] (orig c ((i 0).val / 32)).val [1] * 2048 + (i 0).val % 2048 = (i 0).val
    rw [hb, hy]; omega
  · show Layout.meshLin [2, 4, 4] (orig c ((i 0).val / 32)).val [] * 512 + (i 1).val = (i 1).val
    rw [hc]; omega

end Cert.Gather

end
-- ==== Proof.Reference.lean ====
/-
# The reference's run

The reference returns its argument as it is: it has no operation to run, and no semaphore.
-/
module

public import proofs.«01_k».proof.Proof.Gen.ReferenceIdeal
public import Idealize.ShloMosaic.Lib.StableHlo.Run
public import Idealize.ShloMosaic.Adequacy
public import Idealize.ShloMosaic.Lib.Quiescent

@[expose] public section

noncomputable section

namespace Cert.Gather.Ref

open Cert.ReferenceIdeal
open Idealize.ShloMosaic Idealize.ShloMosaic.TcCoe Idealize.ShloMosaic.StableHlo
open Idealize.SL.Sem

variable {F : FTy → Type} [FloatOps F]

theorem no_scoped_refs : (Finset.univ.filter fun b : Ref sig .tc => b.isScoped) = ∅ := by decide
theorem no_scoped_sems : (Finset.univ.filter fun sm : SemLoc sig => sm.isScoped .tc) = ∅ := by decide

/-- For any float values, every fair run of the reference ends, its argument (which is its result) as it was and all
    semaphores at zero. -/
theorem run (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono
    (fun r h => ⟨fun c => h c main_arg0, sem_eq_zero_of_no_sems (by decide) r.2⟩)
    (run_seq no_scoped_refs no_scoped_sems defs main (fun _ => []) (fun _ => rfl) (fun _ => trivial) m ρ)

end Cert.Gather.Ref

end
-- ==== Proof.lean ====
/-
# The claims

Five claims of an all-gather kernel over `y`: the kernel, the kernel in exact arithmetic and the reference end with their
arguments as they were and all semaphores at zero; reading the kernel in exact arithmetic rewrites nothing; and in exact
arithmetic every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Same
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- Every fair run of the kernel ends, each device's argument as it was and all semaphores at zero. -/
theorem frame_kernel : Cert.quiescent_Kernel := fun m ρ _ => by
  rw [Cert.Gather.defs_same]
  exact Cert.Gather.run_kept (F := Bits) m ρ

/-- The same of the kernel in exact arithmetic. -/
theorem frame_kernelIdeal : Cert.quiescent_KernelIdeal := fun m ρ _ => Cert.Gather.run_kept (F := Ideal) m ρ

/-- The same of the reference. -/
theorem frame_reference : Cert.quiescent_ReferenceIdeal := fun m ρ _ => Cert.Gather.Ref.run (F := Ideal) m ρ

/-- Nothing of the kernel is rewritten for exact arithmetic. -/
theorem preserves : Cert.preserves_Kernel_KernelIdeal := trivial

/-- In exact arithmetic, where the devices' arguments are the blocks of the reference's, every device's result is the
    reference's, which is the whole array. -/
theorem algebraic : Cert.algebraic_KernelIdeal_ReferenceIdeal := fun m ρ m' ρ' _ blocks =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.Gather.final_whole _ _ (fun d => (Cert.Gather.xin_eq m ρ d).trans (blocks d)) c), (h.1 c).2⟩)
      (Cert.Gather.run_values (F := Ideal) m ρ),
    (θ_run Cert.ReferenceIdeal.defs _ _).mono (fun _ h => ⟨h.1 0, h.1 0⟩) (Cert.Gather.Ref.run (F := Ideal) m' ρ')⟩

/-- All claims together. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
